-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "root" .f32 0x3C23D70A#32 ((Real.sqrt (13743895 / 137438953472) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8256 : Shape := ⟨1, ![8256]⟩
abbrev S64x64 : Shape := ⟨2, ![64, 64]⟩
abbrev S512x16x16 : Shape := ⟨3, ![512, 16, 16]⟩
abbrev S512x16x64 : Shape := ⟨3, ![512, 16, 64]⟩
abbrev S128x8256 : Shape := ⟨2, ![128, 8256]⟩
abbrev S_ : Shape := ⟨0, ![]⟩
abbrev S16x16 : Shape := ⟨2, ![16, 16]⟩

class Facts : Prop where
  bcast_S_S64x64 : S_.BroadcastsInDim S64x64 (![] : Fin 0 → Fin S64x64.rank)
  bcast_S_S16x16 : S_.BroadcastsInDim S16x16 (![] : Fin 0 → Fin S16x16.rank)
  bcast_S16x16_S512x16x16_1_2 : S16x16.BroadcastsInDim S512x16x16 (![1, 2] : Fin 2 → Fin S512x16x16.rank)
  bcast_S_S512x16x16 : S_.BroadcastsInDim S512x16x16 (![] : Fin 0 → Fin S512x16x16.rank)
  bcast_S_S512x16x64 : S_.BroadcastsInDim S512x16x64 (![] : Fin 0 → Fin S512x16x64.rank)
  bcast_S_S128x8256 : S_.BroadcastsInDim S128x8256 (![] : Fin 0 → Fin S128x8256.rank)

variable [Facts]

def fn_tril {F : FTy → Type} [FloatOps F] (arg0 : FVec F S64x64 .f32) : FVec F S64x64 .f32 :=
  let v0 : IVec S64x64 32 := iotaInDim S64x64 32 0
  let c : IVec S_ 32 := constantI S_ 32 0#32
  let v1 : IVec S64x64 32 := broadcastInDim S64x64 ![] bcast_S_S64x64 c
  let v2 : IVec S64x64 32 := addi v0 v1
  let v3 : IVec S64x64 32 := iotaInDim S64x64 32 1
  let v4 : IVec S64x64 1 := cmpi .sge v2 v3
  let cst : FVec F S_ .f32 := constant S_ .f32 0x00000000#32
  let v5 : FVec F S64x64 .f32 := broadcastInDim S64x64 ![] bcast_S_S64x64 cst
  let v6 : FVec F S64x64 .f32 := select v4 arg0 v5
  v6

def fn_tril_0 {F : FTy → Type} [FloatOps F] (arg0 : FVec F S512x16x16 .f32) : FVec F S512x16x16 .f32 :=
  let v0 : IVec S16x16 32 := iotaInDim S16x16 32 0
  let c : IVec S_ 32 := constantI S_ 32 0#32
  let v1 : IVec S16x16 32 := broadcastInDim S16x16 ![] bcast_S_S16x16 c
  let v2 : IVec S16x16 32 := addi v0 v1
  let v3 : IVec S16x16 32 := iotaInDim S16x16 32 1
  let v4 : IVec S16x16 1 := cmpi .sge v2 v3
  let v5 : IVec S512x16x16 1 := broadcastInDim S512x16x16 ![1, 2] bcast_S16x16_S512x16x16_1_2 v4
  let cst : FVec F S_ .f32 := constant S_ .f32 0x00000000#32
  let v6 : FVec F S512x16x16 .f32 := broadcastInDim S512x16x16 ![] bcast_S_S512x16x16 cst
  let v7 : FVec F S512x16x16 .f32 := select v5 arg0 v6
  v7

def fn {F : FTy → Type} [FloatOps F] (main_arg0 : FVec F S8256 .f32) (main_arg1 : FVec F S64x64 .f32) (main_arg2 : FVec F S512x16x16 .f32) (main_arg3 : FVec F S512x16x64 .f32) (main_arg4 : FVec F S128x8256 .f32) : IVec S64x64 1 × IVec S512x16x16 1 × IVec S512x16x64 1 × IVec S128x8256 1 :=
  let main_v0 : FVec F S64x64 .f32 := fn_tril (F := F) main_arg1
  let main_v1 : FVec F S64x64 .f32 := Host.absf main_v0
  let main_cst : FVec F S_ .f32 := constant S_ .f32 0x7F800000#32
  let main_v2 : FVec F S64x64 .f32 := broadcastInDim S64x64 ![] bcast_S_S64x64 main_cst
  let main_v3 : IVec S64x64 1 := cmpf .olt main_v1 main_v2
  let main_v4 : FVec F S512x16x16 .f32 := fn_tril_0 (F := F) main_arg2
  let main_v5 : FVec F S512x16x16 .f32 := Host.absf main_v4
  let main_cst_0 : FVec F S_ .f32 := constant S_ .f32 0x7F800000#32
  let main_v6 : FVec F S512x16x16 .f32 := broadcastInDim S512x16x16 ![] bcast_S_S512x16x16 main_cst_0
  let main_v7 : IVec S512x16x16 1 := cmpf .olt main_v5 main_v6
  let main_v8 : FVec F S512x16x64 .f32 := Host.absf main_arg3
  let main_cst_1 : FVec F S_ .f32 := constant S_ .f32 0x7F800000#32
  let main_v9 : FVec F S512x16x64 .f32 := broadcastInDim S512x16x64 ![] bcast_S_S512x16x64 main_cst_1
  let main_v10 : IVec S512x16x64 1 := cmpf .olt main_v8 main_v9
  let main_v11 : FVec F S128x8256 .f32 := Host.absf main_arg4
  let main_cst_2 : FVec F S_ .f32 := constant S_ .f32 0x7F800000#32
  let main_v12 : FVec F S128x8256 .f32 := broadcastInDim S128x8256 ![] bcast_S_S128x8256 main_cst_2
  let main_v13 : IVec S128x8256 1 := cmpf .olt main_v11 main_v12
  (main_v3, main_v7, main_v10, main_v13)
-- ==== Kernel.lean ====
abbrev S8256 : Shape := ⟨1, ![8256]⟩
abbrev S64x64 : Shape := ⟨2, ![64, 64]⟩
abbrev S512x16x16 : Shape := ⟨3, ![512, 16, 16]⟩
abbrev S512x16x64 : Shape := ⟨3, ![512, 16, 64]⟩
abbrev S128x8256 : Shape := ⟨2, ![128, 8256]⟩
abbrev S8192x64 : Shape := ⟨2, ![8192, 64]⟩
abbrev S128x64x64 : Shape := ⟨3, ![128, 64, 64]⟩
abbrev S128x128x64 : Shape := ⟨3, ![128, 128, 64]⟩
abbrev S128x64 : Shape := ⟨2, ![128, 64]⟩
abbrev S128x8192 : Shape := ⟨2, ![128, 8192]⟩
abbrev S64 : Shape := ⟨1, ![64]⟩
abbrev S1x64 : Shape := ⟨2, ![1, 64]⟩
abbrev S8192 : Shape := ⟨1, ![8192]⟩
abbrev S1x64x64 : Shape := ⟨3, ![1, 64, 64]⟩
abbrev S2x64x64 : Shape := ⟨3, ![2, 64, 64]⟩
abbrev S2x64 : Shape := ⟨2, ![2, 64]⟩
abbrev S2 : Shape := ⟨1, ![2]⟩
abbrev S2x1 : Shape := ⟨2, ![2, 1]⟩
abbrev S2x64x1 : Shape := ⟨3, ![2, 64, 1]⟩
abbrev S2x1x64 : Shape := ⟨3, ![2, 1, 64]⟩
abbrev S1x16x16 : Shape := ⟨3, ![1, 16, 16]⟩
abbrev S1x16 : Shape := ⟨2, ![1, 16]⟩
abbrev S512x16 : Shape := ⟨2, ![512, 16]⟩
abbrev S512 : Shape := ⟨1, ![512]⟩
abbrev S512x1 : Shape := ⟨2, ![512, 1]⟩
abbrev S512x16x1 : Shape := ⟨3, ![512, 16, 1]⟩
abbrev S512x1x16 : Shape := ⟨3, ![512, 1, 16]⟩
abbrev S127x64x64 : Shape := ⟨3, ![127, 64, 64]⟩
abbrev S126x64x64 : Shape := ⟨3, ![126, 64, 64]⟩
abbrev S4x64x64 : Shape := ⟨3, ![4, 64, 64]⟩
abbrev S124x64x64 : Shape := ⟨3, ![124, 64, 64]⟩
abbrev S8x64x64 : Shape := ⟨3, ![8, 64, 64]⟩
abbrev S120x64x64 : Shape := ⟨3, ![120, 64, 64]⟩
abbrev S16x64x64 : Shape := ⟨3, ![16, 64, 64]⟩
abbrev S112x64x64 : Shape := ⟨3, ![112, 64, 64]⟩
abbrev S32x64x64 : Shape := ⟨3, ![32, 64, 64]⟩
abbrev S96x64x64 : Shape := ⟨3, ![96, 64, 64]⟩
abbrev S64x64x64 : Shape := ⟨3, ![64, 64, 64]⟩
abbrev S64x16x16 : Shape := ⟨3, ![64, 16, 16]⟩
abbrev S1024x64 : Shape := ⟨2, ![1024, 64]⟩
abbrev S16x128x64 : Shape := ⟨3, ![16, 128, 64]⟩
abbrev S16x64 : Shape := ⟨2, ![16, 64]⟩
abbrev S16 : Shape := ⟨1, ![16]⟩
abbrev S16x1 : Shape := ⟨2, ![16, 1]⟩
abbrev S16x64x1 : Shape := ⟨3, ![16, 64, 1]⟩
abbrev S16x1x64 : Shape := ⟨3, ![16, 1, 64]⟩
abbrev S64x16x64 : Shape := ⟨3, ![64, 16, 64]⟩
abbrev S64x512 : Shape := ⟨2, ![64, 512]⟩
abbrev S8x64 : Shape := ⟨2, ![8, 64]⟩
abbrev S8x128x64 : Shape := ⟨3, ![8, 128, 64]⟩
abbrev S64x128 : Shape := ⟨2, ![64, 128]⟩
abbrev S1x128x64 : Shape := ⟨3, ![1, 128, 64]⟩

abbrev nBuf : Space → Nat
  | .hbm => 23
  | .vmem => 42
  | .smem => 0
  | _ => 0

abbrev bufTy : (tb : Table) → Fin (tcTables nBuf tb) → BufTy
  | .hbm, ⟨0, _⟩ => ⟨S8256, .f32⟩
  | .hbm, ⟨1, _⟩ => ⟨S64x64, .f32⟩
  | .hbm, ⟨2, _⟩ => ⟨S512x16x16, .f32⟩
  | .hbm, ⟨3, _⟩ => ⟨S512x16x64, .f32⟩
  | .hbm, ⟨4, _⟩ => ⟨S128x8256, .f32⟩
  | .hbm, ⟨5, _⟩ => ⟨S8192x64, .f32⟩
  | .hbm, ⟨6, _⟩ => ⟨S64x64, .f32⟩
  | .hbm, ⟨7, _⟩ => ⟨S64x64, .f32⟩
  | .hbm, ⟨8, _⟩ => ⟨S512x16x16, .f32⟩
  | .hbm, ⟨9, _⟩ => ⟨S128x64x64, .f32⟩
  | .hbm, ⟨10, _⟩ => ⟨S128x64x64, .f32⟩
  | .hbm, ⟨11, _⟩ => ⟨S128x64x64, .f32⟩
  | .hbm, ⟨12, _⟩ => ⟨S128x64x64, .f32⟩
  | .hbm, ⟨13, _⟩ => ⟨S128x128x64, .f32⟩
  | .hbm, ⟨14, _⟩ => ⟨S128x64, .f32⟩
  | .hbm, ⟨15, _⟩ => ⟨S128x8192, .f32⟩
  | .hbm, ⟨16, _⟩ => ⟨S64, .f32⟩
  | .hbm, ⟨17, _⟩ => ⟨S1x64, .f32⟩
  | .hbm, ⟨18, _⟩ => ⟨S8192, .f32⟩
  | .hbm, ⟨19, _⟩ => ⟨S128x64, .f32⟩
  | .hbm, ⟨20, _⟩ => ⟨S128x64, .f32⟩
  | .hbm, ⟨21, _⟩ => ⟨S128x8192, .f32⟩
  | .hbm, ⟨22, _⟩ => ⟨S128x8256, .f32⟩
  | .local _ .vmem, ⟨0, _⟩ => ⟨S64x64, .f32⟩
  | .local _ .vmem, ⟨1, _⟩ => ⟨S512x16x16, .f32⟩
  | .local _ .vmem, ⟨2, _⟩ => ⟨S8192x64, .f32⟩
  | .local _ .vmem, ⟨3, _⟩ => ⟨S64x64, .f32⟩
  | .local _ .vmem, ⟨4, _⟩ => ⟨S64x64, .f32⟩
  | .local _ .vmem, ⟨5, _⟩ => ⟨S512x16x16, .f32⟩
  | .local _ .vmem, ⟨6, _⟩ => ⟨S128x64x64, .f32⟩
  | .local _ .vmem, ⟨7, _⟩ => ⟨S128x64x64, .f32⟩
  | .local _ .vmem, ⟨8, _⟩ => ⟨S64x16x16, .f32⟩
  | .local _ .vmem, ⟨9, _⟩ => ⟨S64x16x16, .f32⟩
  | .local _ .vmem, ⟨10, _⟩ => ⟨S16x64x64, .f32⟩
  | .local _ .vmem, ⟨11, _⟩ => ⟨S16x64x64, .f32⟩
  | .local _ .vmem, ⟨12, _⟩ => ⟨S16x64x64, .f32⟩
  | .local _ .vmem, ⟨13, _⟩ => ⟨S16x64x64, .f32⟩
  | .local _ .vmem, ⟨14, _⟩ => ⟨S1024x64, .f32⟩
  | .local _ .vmem, ⟨15, _⟩ => ⟨S1024x64, .f32⟩
  | .local _ .vmem, ⟨16, _⟩ => ⟨S16x64x64, .f32⟩
  | .local _ .vmem, ⟨17, _⟩ => ⟨S16x64x64, .f32⟩
  | .local _ .vmem, ⟨18, _⟩ => ⟨S16x64x64, .f32⟩
  | .local _ .vmem, ⟨19, _⟩ => ⟨S16x64x64, .f32⟩
  | .local _ .vmem, ⟨20, _⟩ => ⟨S16x128x64, .f32⟩
  | .local _ .vmem, ⟨21, _⟩ => ⟨S16x128x64, .f32⟩
  | .local _ .vmem, ⟨22, _⟩ => ⟨S64x64, .f32⟩
  | .local _ .vmem, ⟨23, _⟩ => ⟨S64x64, .f32⟩
  | .local _ .vmem, ⟨24, _⟩ => ⟨S64x512, .f32⟩
  | .local _ .vmem, ⟨25, _⟩ => ⟨S64x512, .f32⟩
  | .local _ .vmem, ⟨26, _⟩ => ⟨S1x64, .f32⟩
  | .local _ .vmem, ⟨27, _⟩ => ⟨S8x64, .f32⟩
  | .local _ .vmem, ⟨28, _⟩ => ⟨S8x64, .f32⟩
  | .local _ .vmem, ⟨29, _⟩ => ⟨S64x64, .f32⟩
  | .local _ .vmem, ⟨30, _⟩ => ⟨S64x64, .f32⟩
  | .local _ .vmem, ⟨31, _⟩ => ⟨S8x64x64, .f32⟩
  | .local _ .vmem, ⟨32, _⟩ => ⟨S8x64x64, .f32⟩
  | .local _ .vmem, ⟨33, _⟩ => ⟨S8x64x64, .f32⟩
  | .local _ .vmem, ⟨34, _⟩ => ⟨S8x64x64, .f32⟩
  | .local _ .vmem, ⟨35, _⟩ => ⟨S8x128x64, .f32⟩
  | .local _ .vmem, ⟨36, _⟩ => ⟨S8x128x64, .f32⟩
  | .local _ .vmem, ⟨37, _⟩ => ⟨S64x64, .f32⟩
  | .local _ .vmem, ⟨38, _⟩ => ⟨S64x64, .f32⟩
  | .local _ .vmem, ⟨39, _⟩ => ⟨S64x512, .f32⟩
  | .local _ .vmem, ⟨40, _⟩ => ⟨S64x512, .f32⟩
  | .local _ .vmem, ⟨41, _⟩ => ⟨S64x64, .f32⟩
  | _, _ => ⟨S8256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_call0_v1_1 : Ref sig .tc := ⟨.hbm, 7, rfl⟩
abbrev main_call0_v1_2 : Ref sig .tc := ⟨.hbm, 8, rfl⟩
abbrev main_call0_v1_3 : Ref sig .tc := ⟨.hbm, 9, rfl⟩
abbrev main_call0_v1_4 : Ref sig .tc := ⟨.hbm, 10, rfl⟩
abbrev main_call0_v2_0 : Ref sig .tc := ⟨.hbm, 11, rfl⟩
abbrev main_call0_v2_1 : Ref sig .tc := ⟨.hbm, 12, rfl⟩
abbrev main_call0_v2_2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9_0 : Ref sig .tc := ⟨.hbm, 20, rfl⟩
abbrev main_call0_v9_1 : Ref sig .tc := ⟨.hbm, 21, rfl⟩
abbrev main_v0 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg8_1 : Ref sig .tc := ⟨.vmem, 36, rfl⟩
abbrev cc2_stg9_0 : Ref sig .tc := ⟨.vmem, 37, rfl⟩
abbrev cc2_stg9_1 : Ref sig .tc := ⟨.vmem, 38, rfl⟩
abbrev cc2_stg10_0 : Ref sig .tc := ⟨.vmem, 39, rfl⟩
abbrev cc2_stg10_1 : Ref sig .tc := ⟨.vmem, 40, rfl⟩
abbrev cc2_scratch0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem7_1 : DmaSem sig := 34
abbrev cc2_sem8_0 : DmaSem sig := 35
abbrev cc2_sem8_1 : DmaSem sig := 36
abbrev cc2_sem9_0 : DmaSem sig := 37
abbrev cc2_sem9_1 : DmaSem sig := 38
abbrev cc2_sem10_0 : DmaSem sig := 39
abbrev cc2_sem10_1 : DmaSem sig := 40

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v26 : BitVec 32 := Scalar.addi c0_i32 c64_i32
  let c1_i32 : BitVec 32 := 1#32
  ⟨c0_i32, v26, c1_i32⟩
@[reducible] def k0_t2_loop : Scf.Loop 32 :=
  let c0_i32_28 : BitVec 32 := 0#32
  let c16_i32_29 : BitVec 32 := 16#32
  let v99 : BitVec 32 := Scalar.addi c0_i32_28 c16_i32_29
  let c1_i32_30 : BitVec 32 := 1#32
  ⟨c0_i32_28, v99, c1_i32_30⟩
@[reducible] def k0_t3_loop : Scf.Loop 32 :=
  let c0_i32_107 : BitVec 32 := 0#32
  let c16_i32_108 : BitVec 32 := 16#32
  let v346 : BitVec 32 := Scalar.addi c0_i32_107 c16_i32_108
  let c1_i32_109 : BitVec 32 := 1#32
  ⟨c0_i32_107, v346, c1_i32_109⟩
@[reducible] def k0_t4_loop : Scf.Loop 32 :=
  let c0_i32_135 : BitVec 32 := 0#32
  let c16_i32_136 : BitVec 32 := 16#32
  let v420 : BitVec 32 := Scalar.addi c0_i32_135 c16_i32_136
  let c1_i32_137 : BitVec 32 := 1#32
  ⟨c0_i32_135, v420, c1_i32_137⟩
abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![8], ![false]⟩

@[reducible] def k1_t1_loop : Scf.Loop 32 :=
  let c0_i32 : BitVec 32 := 0#32
  let c64_i32 : BitVec 32 := 64#32
  let v18 : BitVec 32 := Scalar.addi c0_i32 c64_i32
  let c1_i32 : BitVec 32 := 1#32
  ⟨c0_i32, v18, c1_i32⟩
@[reducible] def k1_t2_loop : Scf.Loop 32 :=
  let c0_i32_32 : BitVec 32 := 0#32
  let c16_i32_33 : BitVec 32 := 16#32
  let v91 : BitVec 32 := Scalar.addi c0_i32_32 c16_i32_33
  let c1_i32_34 : BitVec 32 := 1#32
  ⟨c0_i32_32, v91, c1_i32_34⟩
@[reducible] def k1_t3_loop : Scf.Loop 32 :=
  let c0_i32_100 : BitVec 32 := 0#32
  let c64_i32_101 : BitVec 32 := 64#32
  let v313 : BitVec 32 := Scalar.addi c0_i32_100 c64_i32_101
  let c1_i32_102 : BitVec 32 := 1#32
  ⟨c0_i32_100, v313, c1_i32_102⟩
@[reducible] def k1_t4_loop : Scf.Loop 32 :=
  let c0_i32_125 : BitVec 32 := 0#32
  let c16_i32_126 : BitVec 32 := 16#32
  let v386 : BitVec 32 := Scalar.addi c0_i32_125 c16_i32_126
  let c1_i32_127 : BitVec 32 := 1#32
  ⟨c0_i32_125, v386, c1_i32_127⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x16x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x128x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 16], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S64x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S8x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S8x64x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S8x64x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S8x128x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![false, true]

abbrev stage2_9 : Fin 2 → Memref sig .tc .vmem S64x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S64x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]
-- ==== KernelIdeal.lean ====
variable {F : FTy → Type} [FloatOps F] [Named F]
def κ : String → Option EReal := fun
  | "root" => some ((Real.sqrt (13743895 / 137438953472) : ℝ) : EReal)
  | _ => none
-- ==== ReferenceIdeal.lean ====
abbrev S8256 : Shape := ⟨1, ![8256]⟩
abbrev S64x64 : Shape := ⟨2, ![64, 64]⟩
abbrev S512x16x16 : Shape := ⟨3, ![512, 16, 16]⟩
abbrev S512x16x64 : Shape := ⟨3, ![512, 16, 64]⟩
abbrev S128x8256 : Shape := ⟨2, ![128, 8256]⟩
abbrev S512x512 : Shape := ⟨2, ![512, 512]⟩
abbrev S_ : Shape := ⟨0, ![]⟩
abbrev S512x1x512x1 : Shape := ⟨4, ![512, 1, 512, 1]⟩
abbrev S16x16 : Shape := ⟨2, ![16, 16]⟩
abbrev S512x16x1x16 : Shape := ⟨4, ![512, 16, 1, 16]⟩
abbrev S512x16x512x16 : Shape := ⟨4, ![512, 16, 512, 16]⟩
abbrev S8192x8192 : Shape := ⟨2, ![8192, 8192]⟩
abbrev S64x8192 : Shape := ⟨2, ![64, 8192]⟩
abbrev S64x8256 : Shape := ⟨2, ![64, 8256]⟩
abbrev S8192x64 : Shape := ⟨2, ![8192, 64]⟩
abbrev S8192x8256 : Shape := ⟨2, ![8192, 8256]⟩
abbrev S8256x8256 : Shape := ⟨2, ![8256, 8256]⟩
abbrev S8256x1 : Shape := ⟨2, ![8256, 1]⟩
abbrev S1x8256 : Shape := ⟨2, ![1, 8256]⟩
abbrev S1 : Shape := ⟨1, ![1]⟩

abbrev nBuf : Space → Nat
  | .hbm => 137
  | .vmem => 0
  | .smem => 0
  | _ => 0

abbrev hbmTy0_0 (i : Nat) : BufTy := match i % 128 with
  | 0 => ⟨S8256, .f32⟩
  | 1 => ⟨S64x64, .f32⟩
  | 2 => ⟨S512x16x16, .f32⟩
  | 3 => ⟨S512x16x64, .f32⟩
  | 4 => ⟨S128x8256, .f32⟩
  | 5 => ⟨S512x512, .i32⟩
  | 6 => ⟨S512x512, .i32⟩
  | 7 => ⟨S_, .i32⟩
  | 8 => ⟨S512x512, .i32⟩
  | 9 => ⟨S512x512, .i32⟩
  | 10 => ⟨S512x512, .i1⟩
  | 11 => ⟨S512x512, .f32⟩
  | 12 => ⟨S512x1x512x1, .f32⟩
  | 13 => ⟨S16x16, .i32⟩
  | 14 => ⟨S_, .i32⟩
  | 15 => ⟨S16x16, .i32⟩
  | 16 => ⟨S16x16, .i32⟩
  | 17 => ⟨S16x16, .i32⟩
  | 18 => ⟨S16x16, .i1⟩
  | 19 => ⟨S512x16x16, .i1⟩
  | 20 => ⟨S_, .f32⟩
  | 21 => ⟨S512x16x16, .f32⟩
  | 22 => ⟨S512x16x16, .f32⟩
  | 23 => ⟨S512x16x1x16, .f32⟩
  | 24 => ⟨S512x16x512x16, .f32⟩
  | 25 => ⟨S512x16x512x16, .f32⟩
  | 26 => ⟨S512x16x512x16, .f32⟩
  | 27 => ⟨S8192x8192, .f32⟩
  | 28 => ⟨S64x64, .i32⟩
  | 29 => ⟨S_, .i32⟩
  | 30 => ⟨S64x64, .i32⟩
  | 31 => ⟨S64x64, .i32⟩
  | 32 => ⟨S64x64, .i32⟩
  | 33 => ⟨S64x64, .i1⟩
  | 34 => ⟨S_, .f32⟩
  | 35 => ⟨S64x64, .f32⟩
  | 36 => ⟨S64x64, .f32⟩
  | 37 => ⟨S_, .f32⟩
  | 38 => ⟨S64x8192, .f32⟩
  | 39 => ⟨S64x8256, .f32⟩
  | 40 => ⟨S8192x64, .f32⟩
  | 41 => ⟨S8192x8256, .f32⟩
  | 42 => ⟨S8256x8256, .f32⟩
  | 43 => ⟨S8256x8256, .f32⟩
  | 44 => ⟨S8256x8256, .f32⟩
  | 45 => ⟨S8256x8256, .i32⟩
  | 46 => ⟨S8256x8256, .i32⟩
  | 47 => ⟨S_, .i32⟩
  | 48 => ⟨S8256x8256, .i32⟩
  | 49 => ⟨S8256x8256, .i32⟩
  | 50 => ⟨S8256x8256, .i1⟩
  | 51 => ⟨S8256x8256, .f32⟩
  | 52 => ⟨S_, .f32⟩
  | 53 => ⟨S8256x8256, .f32⟩
  | 54 => ⟨S8256x8256, .f32⟩
  | 55 => ⟨S8256x8256, .f32⟩
  | 56 => ⟨S8256, .i32⟩
  | 57 => ⟨S_, .f32⟩
  | 58 => ⟨S8256x8256, .f32⟩
  | 59 => ⟨S_, .i32⟩
  | 60 => ⟨S_, .i32⟩
  | 61 => ⟨S8256x8256, .f32⟩
  | 62 => ⟨S8256, .i32⟩
  | 63 => ⟨S_, .i32⟩
  | 64 => ⟨S_, .i32⟩
  | 65 => ⟨S8256x8256, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S8256x1, .f32⟩
  | 85 => ⟨S8256, .f32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x8256, .f32⟩
  | 101 => ⟨S8256, .f32⟩
  | 102 => ⟨S8256, .f32⟩
  | 103 => ⟨S8256, .f32⟩
  | 104 => ⟨S_, .i32⟩
  | 105 => ⟨S8256, .i32⟩
  | 106 => ⟨S8256, .i1⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S1, .f32⟩
  | 114 => ⟨S_, .f32⟩
  | 115 => ⟨S_, .f32⟩
  | 116 => ⟨S8256, .f32⟩
  | 117 => ⟨S8256, .f32⟩
  | 118 => ⟨S_, .f32⟩
  | 119 => ⟨S_, .f32⟩
  | 120 => ⟨S8256, .f32⟩
  | 121 => ⟨S8256, .f32⟩
  | 122 => ⟨S1x8256, .i32⟩
  | 123 => ⟨S_, .i32⟩
  | 124 => ⟨S1x8256, .i32⟩
  | 125 => ⟨S1x8256, .i1⟩
  | 126 => ⟨S8256x1, .f32⟩
  | 127 => ⟨S8256x8256, .i1⟩
  | _ => ⟨S8256, .f32⟩

abbrev hbmTy0_1 (i : Nat) : BufTy := match i % 128 with
  | 0 => ⟨S8256x8256, .f32⟩
  | 1 => ⟨S8256x8256, .f32⟩
  | 2 => ⟨S_, .i32⟩
  | 3 => ⟨S_, .i32⟩
  | 4 => ⟨S1x8256, .f32⟩
  | 5 => ⟨S8256x8256, .f32⟩
  | 6 => ⟨S128x8256, .f32⟩
  | 7 => ⟨S128x8256, .f32⟩
  | 8 => ⟨S128x8256, .f32⟩
  | _ => ⟨S8256, .f32⟩

abbrev hbmTy (i : Nat) : BufTy := match i / 128 with
  | 0 => hbmTy0_0 i
  | 1 => hbmTy0_1 i
  | _ => ⟨S8256, .f32⟩

abbrev bufTy : (tb : Table) → Fin (tcTables nBuf tb) → BufTy
  | .hbm, ⟨i, _⟩ => hbmTy i
  | _, _ => ⟨S8256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_cst : Ref sig .tc := ⟨.hbm, 20, rfl⟩
abbrev main_call0_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_cst : Ref sig .tc := ⟨.hbm, 34, rfl⟩
abbrev main_call1_v5 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_2 : Ref sig .tc := ⟨.hbm, 57, rfl⟩
abbrev main_v31 : Ref sig .tc := ⟨.hbm, 58, rfl⟩
abbrev main_c_3 : Ref sig .tc := ⟨.hbm, 59, rfl⟩
abbrev main_c_4 : Ref sig .tc := ⟨.hbm, 60, rfl⟩
abbrev main_v32_0 : Ref sig .tc := ⟨.hbm, 61, rfl⟩
abbrev main_v32_1 : Ref sig .tc := ⟨.hbm, 62, rfl⟩
abbrev main_v32_2 : Ref sig .tc := ⟨.hbm, 63, rfl⟩
abbrev main_v32_3 : Ref sig .tc := ⟨.hbm, 64, rfl⟩
abbrev main_v32_4 : Ref sig .tc := ⟨.hbm, 65, rfl⟩
abbrev main_while0c_c_9 : Ref sig .tc := ⟨.hbm, 66, rfl⟩
abbrev main_while0c_v38 : Ref sig .tc := ⟨.hbm, 67, rfl⟩
abbrev main_while0b_c_9 : Ref sig .tc := ⟨.hbm, 68, rfl⟩
abbrev main_while0b_v38 : Ref sig .tc := ⟨.hbm, 69, rfl⟩
abbrev main_while0b_v39 : Ref sig .tc := ⟨.hbm, 70, rfl⟩
abbrev main_while0b_c_10 : Ref sig .tc := ⟨.hbm, 71, rfl⟩
abbrev main_while0b_c_11 : Ref sig .tc := ⟨.hbm, 72, rfl⟩
abbrev main_while0b_v40 : Ref sig .tc := ⟨.hbm, 73, rfl⟩
abbrev main_while0b_c_12 : Ref sig .tc := ⟨.hbm, 74, rfl⟩
abbrev main_while0b_c_13 : Ref sig .tc := ⟨.hbm, 75, rfl⟩
abbrev main_while0b_v41 : Ref sig .tc := ⟨.hbm, 76, rfl⟩
abbrev main_while0b_c_14 : Ref sig .tc := ⟨.hbm, 77, rfl⟩
abbrev main_while0b_v42 : Ref sig .tc := ⟨.hbm, 78, rfl⟩
abbrev main_while0b_c_15 : Ref sig .tc := ⟨.hbm, 79, rfl⟩
abbrev main_while0b_v43 : Ref sig .tc := ⟨.hbm, 80, rfl⟩
abbrev main_while0b_c_16 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_c_17 : Ref sig .tc := ⟨.hbm, 87, rfl⟩
abbrev main_while0b_v49 : Ref sig .tc := ⟨.hbm, 88, rfl⟩
abbrev main_while0b_c_18 : Ref sig .tc := ⟨.hbm, 89, rfl⟩
abbrev main_while0b_v50 : Ref sig .tc := ⟨.hbm, 90, rfl⟩
abbrev main_while0b_v51 : Ref sig .tc := ⟨.hbm, 91, rfl⟩
abbrev main_while0b_c_19 : Ref sig .tc := ⟨.hbm, 92, rfl⟩
abbrev main_while0b_c_20 : Ref sig .tc := ⟨.hbm, 93, rfl⟩
abbrev main_while0b_v52 : Ref sig .tc := ⟨.hbm, 94, rfl⟩
abbrev main_while0b_c_21 : Ref sig .tc := ⟨.hbm, 95, rfl⟩
abbrev main_while0b_c_22 : Ref sig .tc := ⟨.hbm, 96, rfl⟩
abbrev main_while0b_v53 : Ref sig .tc := ⟨.hbm, 97, rfl⟩
abbrev main_while0b_c_23 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_v57 : Ref sig .tc := ⟨.hbm, 102, rfl⟩
abbrev main_while0b_v58 : Ref sig .tc := ⟨.hbm, 103, rfl⟩
abbrev main_while0b_v59 : Ref sig .tc := ⟨.hbm, 104, rfl⟩
abbrev main_while0b_v60 : Ref sig .tc := ⟨.hbm, 105, rfl⟩
abbrev main_while0b_v61 : Ref sig .tc := ⟨.hbm, 106, rfl⟩
abbrev main_while0b_c_24 : Ref sig .tc := ⟨.hbm, 107, rfl⟩
abbrev main_while0b_v62 : Ref sig .tc := ⟨.hbm, 108, rfl⟩
abbrev main_while0b_v63 : Ref sig .tc := ⟨.hbm, 109, rfl⟩
abbrev main_while0b_c_25 : Ref sig .tc := ⟨.hbm, 110, rfl⟩
abbrev main_while0b_v64 : Ref sig .tc := ⟨.hbm, 111, rfl⟩
abbrev main_while0b_v65 : Ref sig .tc := ⟨.hbm, 112, rfl⟩
abbrev main_while0b_v66 : Ref sig .tc := ⟨.hbm, 113, rfl⟩
abbrev main_while0b_v67 : Ref sig .tc := ⟨.hbm, 114, rfl⟩
abbrev main_while0b_v68 : Ref sig .tc := ⟨.hbm, 115, rfl⟩
abbrev main_while0b_v69 : Ref sig .tc := ⟨.hbm, 116, rfl⟩
abbrev main_while0b_v70 : Ref sig .tc := ⟨.hbm, 117, rfl⟩
abbrev main_while0b_cst_26 : Ref sig .tc := ⟨.hbm, 118, rfl⟩
abbrev main_while0b_call2_v0 : Ref sig .tc := ⟨.hbm, 119, rfl⟩
abbrev main_while0b_call2_v1 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_call3_v0 : Ref sig .tc := ⟨.hbm, 127, rfl⟩
abbrev main_while0b_call3_v1 : Ref sig .tc := ⟨.hbm, 128, rfl⟩
abbrev main_while0b_v77 : Ref sig .tc := ⟨.hbm, 129, rfl⟩
abbrev main_while0b_c_27 : Ref sig .tc := ⟨.hbm, 130, rfl⟩
abbrev main_while0b_v78 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩

abbrev nD : Nat := 1
abbrev τ : Topo := Topo.v7x

variable {F : FTy → Type} [FloatOps F]

abbrev main_while0_count : Scf.Loop 32 := ⟨0#32, 8256#32, 1#32⟩
-- ==== Proof.KernelIdealRun.Region0.lean ====
/- The first region (one point): what its body leaves in each output buffer, and the obligation the pipeline asks of it. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 0 of @main: custom_call 0, `cc0__factor1_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`) (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`) (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`) (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S64x64 .f32 := (Memref.whole cc0_stg3_0 : Memref sig .tc .vmem S64x64 .f32).view
/-- One staging buffer of output window 4, through which its contents are stated (`View.read_writes_of_cover`: the
    choice does not matter). -/
abbrev VO0_4 : View sig .tc .vmem S64x64 .f32 := (Memref.whole cc0_stg4_0 : Memref sig .tc .vmem S64x64 .f32).view
/-- One staging buffer of output window 5, through which its contents are stated (`View.read_writes_of_cover`: the
    choice does not matter). -/
abbrev VO0_5 : View sig .tc .vmem S512x16x16 .f32 := (Memref.whole cc0_stg5_0 : Memref sig .tc .vmem S512x16x16 .f32).view
/-- One staging buffer of output window 6, through which its contents are stated (`View.read_writes_of_cover`: the
    choice does not matter). -/
abbrev VO0_6 : View sig .tc .vmem S128x64x64 .f32 := (Memref.whole cc0_stg6_0 : Memref sig .tc .vmem S128x64x64 .f32).view
/-- One staging buffer of output window 7, through which its contents are stated (`View.read_writes_of_cover`: the
    choice does not matter). -/
abbrev VO0_7 : View sig .tc .vmem S128x64x64 .f32 := (Memref.whole cc0_stg7_0 : Memref sig .tc .vmem S128x64x64 .f32).view
/-- Each window's current staging memref at point `t`, spelled as the pipeline passes it (`bodyAt0`), and its wholeness. -/
abbrev ms0_0 (t : Fin cfg0.N) : Memref sig .tc .vmem S64x64 .f32 := win0_0.stage (cfg0.slots t 0)
abbrev hs0_0 (t : Fin cfg0.N) : (ms0_0 t).IsWhole := hstage0_0 0
abbrev ms0_1 (t : Fin cfg0.N) : Memref sig .tc .vmem S512x16x16 .f32 := win0_1.stage (cfg0.slots t 1)
abbrev hs0_1 (t : Fin cfg0.N) : (ms0_1 t).IsWhole := hstage0_1 0
abbrev ms0_2 (t : Fin cfg0.N) : Memref sig .tc .vmem S8192x64 .f32 := win0_2.stage (cfg0.slots t 2)
abbrev hs0_2 (t : Fin cfg0.N) : (ms0_2 t).IsWhole := hstage0_2 0
abbrev ms0_3 (t : Fin cfg0.N) : Memref sig .tc .vmem S64x64 .f32 := win0_3.stage (cfg0.slots t 3)
abbrev hs0_3 (t : Fin cfg0.N) : (ms0_3 t).IsWhole := hstage0_3 0
abbrev ms0_4 (t : Fin cfg0.N) : Memref sig .tc .vmem S64x64 .f32 := win0_4.stage (cfg0.slots t 4)
abbrev hs0_4 (t : Fin cfg0.N) : (ms0_4 t).IsWhole := hstage0_4 0
abbrev ms0_5 (t : Fin cfg0.N) : Memref sig .tc .vmem S512x16x16 .f32 := win0_5.stage (cfg0.slots t 5)
abbrev hs0_5 (t : Fin cfg0.N) : (ms0_5 t).IsWhole := hstage0_5 0
abbrev ms0_6 (t : Fin cfg0.N) : Memref sig .tc .vmem S128x64x64 .f32 := win0_6.stage (cfg0.slots t 6)
abbrev hs0_6 (t : Fin cfg0.N) : (ms0_6 t).IsWhole := hstage0_6 0
abbrev ms0_7 (t : Fin cfg0.N) : Memref sig .tc .vmem S128x64x64 .f32 := win0_7.stage (cfg0.slots t 7)
abbrev hs0_7 (t : Fin cfg0.N) : (ms0_7 t).IsWhole := hstage0_7 0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written. -/
noncomputable def kernelRun0_A (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) :
    Σ' (L3 : List (View.Piece (Elt F) S64x64 .f32)), Σ' (L4 : List (View.Piece (Elt F) S64x64 .f32)), Σ' (L5 : List (View.Piece (Elt F) S512x16x16 .f32)), Σ' (L6 : List (View.Piece (Elt F) S128x64x64 .f32)), { L7 : List (View.Piece (Elt F) S128x64x64 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__factor1_kernel arg0 harg0 arg1 harg1 arg2 harg2 arg3 harg3 arg4 harg4 arg5 harg5 arg6 harg6 arg7 harg7) K } := by
  refine ⟨?_, ?_, ?_, ?_, ?_, fun E K => ?run⟩
  case run =>
    simp only [cc0__factor1_kernel_eq_skeleton]; unfold cc0__factor1_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    iexists _; iexact H7

/-- The run's pieces for output 3 tile its block (1 store of `S64x64`), so they cover it. -/
theorem cover0_A_3 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) (y : S64x64.Idx) :
    ∃ pc ∈ (kernelRun0_A c arg0 harg0 arg1 harg1 arg2 harg2 arg3 harg3 arg4 harg4 arg5 harg5 arg6 harg6 arg7 harg7 x0 x1 x2).1, y ∈ pc.1.set :=
  View.cover_of_tiledL (kernelRun0_A c arg0 harg0 arg1 harg1 arg2 harg2 arg3 harg3 arg4 harg4 arg5 harg5 arg6 harg6 arg7 harg7 x0 x1 x2).1 S64x64.size (by sl_kernel_rfl) y

/-- What the run leaves in output 3's staging buffer: its pieces read back over junk. -/
def out0_A_3 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) : Vec F S64x64 .f32 :=
  VO0_3.read (Elt F) (VO0_3.writes (Elt F) VO0_3.junk (kernelRun0_A c arg0 harg0 arg1 harg1 arg2 harg2 arg3 harg3 arg4 harg4 arg5 harg5 arg6 harg6 arg7 harg7 x0 x1 x2).1)

/-- The run's pieces for output 4 tile its block (1 store of `S64x64`), so they cover it. -/
theorem cover0_A_4 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) (y : S64x64.Idx) :
    ∃ pc ∈ (kernelRun0_A c arg0 harg0 arg1 harg1 arg2 harg2 arg3 harg3 arg4 harg4 arg5 harg5 arg6 harg6 arg7 harg7 x0 x1 x2).2.1, y ∈ pc.1.set :=
  View.cover_of_tiledL (kernelRun0_A c arg0 harg0 arg1 harg1 arg2 harg2 arg3 harg3 arg4 harg4 arg5 harg5 arg6 harg6 arg7 harg7 x0 x1 x2).2.1 S64x64.size (by sl_kernel_rfl) y

/-- What the run leaves in output 4's staging buffer: its pieces read back over junk. -/
def out0_A_4 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) : Vec F S64x64 .f32 :=
  VO0_4.read (Elt F) (VO0_4.writes (Elt F) VO0_4.junk (kernelRun0_A c arg0 harg0 arg1 harg1 arg2 harg2 arg3 harg3 arg4 harg4 arg5 harg5 arg6 harg6 arg7 harg7 x0 x1 x2).2.1)

/-- The run's pieces for output 5 tile its block (1 store of `S512x16x16`), so they cover it. -/
theorem cover0_A_5 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) (y : S512x16x16.Idx) :
    ∃ pc ∈ (kernelRun0_A c arg0 harg0 arg1 harg1 arg2 harg2 arg3 harg3 arg4 harg4 arg5 harg5 arg6 harg6 arg7 harg7 x0 x1 x2).2.2.1, y ∈ pc.1.set :=
  View.cover_of_tiledL (kernelRun0_A c arg0 harg0 arg1 harg1 arg2 harg2 arg3 harg3 arg4 harg4 arg5 harg5 arg6 harg6 arg7 harg7 x0 x1 x2).2.2.1 S512x16x16.size (by sl_kernel_rfl) y

/-- What the run leaves in output 5's staging buffer: its pieces read back over junk. -/
def out0_A_5 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) : Vec F S512x16x16 .f32 :=
  VO0_5.read (Elt F) (VO0_5.writes (Elt F) VO0_5.junk (kernelRun0_A c arg0 harg0 arg1 harg1 arg2 harg2 arg3 harg3 arg4 harg4 arg5 harg5 arg6 harg6 arg7 harg7 x0 x1 x2).2.2.1)

/-- The run's pieces for output 6 tile its block (1 store of `S128x64x64`), so they cover it. -/
theorem cover0_A_6 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) (y : S128x64x64.Idx) :
    ∃ pc ∈ (kernelRun0_A c arg0 harg0 arg1 harg1 arg2 harg2 arg3 harg3 arg4 harg4 arg5 harg5 arg6 harg6 arg7 harg7 x0 x1 x2).2.2.2.1, y ∈ pc.1.set :=
  View.cover_of_tiledL (kernelRun0_A c arg0 harg0 arg1 harg1 arg2 harg2 arg3 harg3 arg4 harg4 arg5 harg5 arg6 harg6 arg7 harg7 x0 x1 x2).2.2.2.1 S128x64x64.size (by sl_kernel_rfl) y

/-- What the run leaves in output 6's staging buffer: its pieces read back over junk. -/
def out0_A_6 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) : Vec F S128x64x64 .f32 :=
  VO0_6.read (Elt F) (VO0_6.writes (Elt F) VO0_6.junk (kernelRun0_A c arg0 harg0 arg1 harg1 arg2 harg2 arg3 harg3 arg4 harg4 arg5 harg5 arg6 harg6 arg7 harg7 x0 x1 x2).2.2.2.1)

/-- The run's pieces for output 7 tile its block (1 store of `S128x64x64`), so they cover it. -/
theorem cover0_A_7 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) (y : S128x64x64.Idx) :
    ∃ pc ∈ (kernelRun0_A c arg0 harg0 arg1 harg1 arg2 harg2 arg3 harg3 arg4 harg4 arg5 harg5 arg6 harg6 arg7 harg7 x0 x1 x2).2.2.2.2.1, y ∈ pc.1.set :=
  View.cover_of_tiledL (kernelRun0_A c arg0 harg0 arg1 harg1 arg2 harg2 arg3 harg3 arg4 harg4 arg5 harg5 arg6 harg6 arg7 harg7 x0 x1 x2).2.2.2.2.1 S128x64x64.size (by sl_kernel_rfl) y

/-- What the run leaves in output 7's staging buffer: its pieces read back over junk. -/
def out0_A_7 (c : Dev nD) (arg0 : Memref sig .tc .vmem S64x64 .f32) (harg0 : arg0.IsWhole) (arg1 : Memref sig .tc .vmem S512x16x16 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S512x16x16 .f32) (harg5 : arg5.IsWhole) (arg6 : Memref sig .tc .vmem S128x64x64 .f32) (harg6 : arg6.IsWhole) (arg7 : Memref sig .tc .vmem S128x64x64 .f32) (harg7 : arg7.IsWhole)
    (x0 : Vec F S64x64 .f32) (x1 : Vec F S512x16x16 .f32) (x2 : Vec F S8192x64 .f32) : Vec F S128x64x64 .f32 :=
  VO0_7.read (Elt F) (VO0_7.writes (Elt F) VO0_7.junk (kernelRun0_A c arg0 harg0 arg1 harg1 arg2 harg2 arg3 harg3 arg4 harg4 arg5 harg5 arg6 harg6 arg7 harg7 x0 x1 x2).2.2.2.2.1)

/-! ## What the outputs hold after each point -/

/-- What the outputs' staging buffers hold after the body at point `t` (as a tuple, in window order): the run's contents at
    the point's memrefs and input blocks. -/
def outsAt0 (c : Dev nD) (t : Fin cfg0.N) : Vec F S64x64 .f32 × Vec F S64x64 .f32 × Vec F S512x16x16 .f32 × Vec F S128x64x64 .f32 × Vec F S128x64x64 .f32 :=
  (out0_A_3 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t), out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t), out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t), out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant that the scratch is owned
    ; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2.1
    | ⟨5, _⟩ => (outsAt0 V c t).2.2.1
    | ⟨6, _⟩ => (outsAt0 V c t).2.2.2.1
    | ⟨7, _⟩ => (outsAt0 V c t).2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2.1 := by dsimp only [dat0]
theorem after0_5 (c : Dev nD) (t : Fin cfg0.N) : (dat0 V c).after 5 t = (outsAt0 V c t).2.2.1 := by dsimp only [dat0]
theorem after0_6 (c : Dev nD) (t : Fin cfg0.N) : (dat0 V c).after 6 t = (outsAt0 V c t).2.2.2.1 := by dsimp only [dat0]
theorem after0_7 (c : Dev nD) (t : Fin cfg0.N) : (dat0 V c).after 7 t = (outsAt0 V c t).2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outsAt0
  unfold out0_A_3 out0_A_4 out0_A_5 out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ (iblk0 V c 0 t) (iblk0 V c 1 t) (iblk0 V c 2 t)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, ⟨%e3, H3⟩, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdealRun.Region1.lean ====
/- The second region (eight points): what its body leaves in each output buffer at a point, and the obligation the pipeline asks of it. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 1 of @main: custom_call 1, `cc1__factor2_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`) (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`) (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`) (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`) (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S16x64x64 .f32 := (Memref.whole cc1_stg4_0 : Memref sig .tc .vmem S16x64x64 .f32).view
/-- One staging buffer of output window 5, through which its contents are stated (`View.read_writes_of_cover`: the
    choice does not matter). -/
abbrev VO1_5 : View sig .tc .vmem S16x64x64 .f32 := (Memref.whole cc1_stg5_0 : Memref sig .tc .vmem S16x64x64 .f32).view
/-- One staging buffer of output window 6, through which its contents are stated (`View.read_writes_of_cover`: the
    choice does not matter). -/
abbrev VO1_6 : View sig .tc .vmem S16x128x64 .f32 := (Memref.whole cc1_stg6_0 : Memref sig .tc .vmem S16x128x64 .f32).view
/-- Each window's current staging memref at point `t`, spelled as the pipeline passes it (`bodyAt1`), and its wholeness. -/
abbrev ms1_0 (t : Fin cfg1.N) : Memref sig .tc .vmem S64x16x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x128x64 .f32 := win1_6.stage (cfg1.slots t 6)
abbrev hs1_6 (t : Fin cfg1.N) : (ms1_6 t).IsWhole := hstage1_6 ((cfg1.slots t 6).cast nbuf1_6)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written. -/
noncomputable def kernelRun1_A (c : Dev nD) (i : grid1.Coords) (arg1 : Memref sig .tc .vmem S64x16x16 .f32) (harg1 : arg1.IsWhole) (arg2 : Memref sig .tc .vmem S16x64x64 .f32) (harg2 : arg2.IsWhole) (arg3 : Memref sig .tc .vmem S16x64x64 .f32) (harg3 : arg3.IsWhole) (arg4 : Memref sig .tc .vmem S1024x64 .f32) (harg4 : arg4.IsWhole) (arg5 : Memref sig .tc .vmem S16x64x64 .f32) (harg5 : arg5.IsWhole) (arg6 : Memref sig .tc .vmem S16x64x64 .f32) (harg6 : arg6.IsWhole) (arg7 : Memref sig .tc .vmem S16x128x64 .f32) (harg7 : arg7.IsWhole)
    (x0 : Vec F S64x16x16 .f32) (x1 : Vec F S16x64x64 .f32) (x2 : Vec F S16x64x64 .f32) (x3 : Vec F S1024x64 .f32) :
    Σ' (L4 : List (View.Piece (Elt F) S16x64x64 .f32)), Σ' (L5 : List (View.Piece (Elt F) S16x64x64 .f32)), { L6 : List (View.Piece (Elt F) S16x128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1__factor2_kernel i arg1 harg1 arg2 harg2 arg3 harg3 arg4 harg4 arg5 harg5 arg6 harg6 arg7 harg7) K } := by
  refine ⟨?_, ?_, ?_, fun E K => ?run⟩
  case run =>
    simp only [cc1__factor2_kernel_eq_skeleton]; unfold cc1__factor2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-- The run's pieces for output 4 tile its block (1 store of `S16x64x64`), so they cover it. -/
theorem cover1_A_4 (c : Dev nD) (i : grid1.Coords) (arg1 : Memref sig .tc .vmem S64x16x16 .f32) (harg1 : arg1.IsWhole) (arg2 : Memref sig .tc .vmem S16x64x64 .f32) (harg2 : arg2.IsWhole) (arg3 : Memref sig .tc .vmem S16x64x64 .f32) (harg3 : arg3.IsWhole) (arg4 : Memref sig .tc .vmem S1024x64 .f32) (harg4 : arg4.IsWhole) (arg5 : Memref sig .tc .vmem S16x64x64 .f32) (harg5 : arg5.IsWhole) (arg6 : Memref sig .tc .vmem S16x64x64 .f32) (harg6 : arg6.IsWhole) (arg7 : Memref sig .tc .vmem S16x128x64 .f32) (harg7 : arg7.IsWhole)
    (x0 : Vec F S64x16x16 .f32) (x1 : Vec F S16x64x64 .f32) (x2 : Vec F S16x64x64 .f32) (x3 : Vec F S1024x64 .f32) (y : S16x64x64.Idx) :
    ∃ pc ∈ (kernelRun1_A c i arg1 harg1 arg2 harg2 arg3 harg3 arg4 harg4 arg5 harg5 arg6 harg6 arg7 harg7 x0 x1 x2 x3).1, y ∈ pc.1.set :=
  View.cover_of_tiledL (kernelRun1_A c i arg1 harg1 arg2 harg2 arg3 harg3 arg4 harg4 arg5 harg5 arg6 harg6 arg7 harg7 x0 x1 x2 x3).1 S16x64x64.size (by sl_kernel_rfl) y

/-- What the run leaves in output 4's staging buffer: its pieces read back over junk. -/
def out1_A_4 (c : Dev nD) (i : grid1.Coords) (arg1 : Memref sig .tc .vmem S64x16x16 .f32) (harg1 : arg1.IsWhole) (arg2 : Memref sig .tc .vmem S16x64x64 .f32) (harg2 : arg2.IsWhole) (arg3 : Memref sig .tc .vmem S16x64x64 .f32) (harg3 : arg3.IsWhole) (arg4 : Memref sig .tc .vmem S1024x64 .f32) (harg4 : arg4.IsWhole) (arg5 : Memref sig .tc .vmem S16x64x64 .f32) (harg5 : arg5.IsWhole) (arg6 : Memref sig .tc .vmem S16x64x64 .f32) (harg6 : arg6.IsWhole) (arg7 : Memref sig .tc .vmem S16x128x64 .f32) (harg7 : arg7.IsWhole)
    (x0 : Vec F S64x16x16 .f32) (x1 : Vec F S16x64x64 .f32) (x2 : Vec F S16x64x64 .f32) (x3 : Vec F S1024x64 .f32) : Vec F S16x64x64 .f32 :=
  VO1_4.read (Elt F) (VO1_4.writes (Elt F) VO1_4.junk (kernelRun1_A c i arg1 harg1 arg2 harg2 arg3 harg3 arg4 harg4 arg5 harg5 arg6 harg6 arg7 harg7 x0 x1 x2 x3).1)

/-- The run's pieces for output 5 tile its block (1 store of `S16x64x64`), so they cover it. -/
theorem cover1_A_5 (c : Dev nD) (i : grid1.Coords) (arg1 : Memref sig .tc .vmem S64x16x16 .f32) (harg1 : arg1.IsWhole) (arg2 : Memref sig .tc .vmem S16x64x64 .f32) (harg2 : arg2.IsWhole) (arg3 : Memref sig .tc .vmem S16x64x64 .f32) (harg3 : arg3.IsWhole) (arg4 : Memref sig .tc .vmem S1024x64 .f32) (harg4 : arg4.IsWhole) (arg5 : Memref sig .tc .vmem S16x64x64 .f32) (harg5 : arg5.IsWhole) (arg6 : Memref sig .tc .vmem S16x64x64 .f32) (harg6 : arg6.IsWhole) (arg7 : Memref sig .tc .vmem S16x128x64 .f32) (harg7 : arg7.IsWhole)
    (x0 : Vec F S64x16x16 .f32) (x1 : Vec F S16x64x64 .f32) (x2 : Vec F S16x64x64 .f32) (x3 : Vec F S1024x64 .f32) (y : S16x64x64.Idx) :
    ∃ pc ∈ (kernelRun1_A c i arg1 harg1 arg2 harg2 arg3 harg3 arg4 harg4 arg5 harg5 arg6 harg6 arg7 harg7 x0 x1 x2 x3).2.1, y ∈ pc.1.set :=
  View.cover_of_tiledL (kernelRun1_A c i arg1 harg1 arg2 harg2 arg3 harg3 arg4 harg4 arg5 harg5 arg6 harg6 arg7 harg7 x0 x1 x2 x3).2.1 S16x64x64.size (by sl_kernel_rfl) y

/-- What the run leaves in output 5's staging buffer: its pieces read back over junk. -/
def out1_A_5 (c : Dev nD) (i : grid1.Coords) (arg1 : Memref sig .tc .vmem S64x16x16 .f32) (harg1 : arg1.IsWhole) (arg2 : Memref sig .tc .vmem S16x64x64 .f32) (harg2 : arg2.IsWhole) (arg3 : Memref sig .tc .vmem S16x64x64 .f32) (harg3 : arg3.IsWhole) (arg4 : Memref sig .tc .vmem S1024x64 .f32) (harg4 : arg4.IsWhole) (arg5 : Memref sig .tc .vmem S16x64x64 .f32) (harg5 : arg5.IsWhole) (arg6 : Memref sig .tc .vmem S16x64x64 .f32) (harg6 : arg6.IsWhole) (arg7 : Memref sig .tc .vmem S16x128x64 .f32) (harg7 : arg7.IsWhole)
    (x0 : Vec F S64x16x16 .f32) (x1 : Vec F S16x64x64 .f32) (x2 : Vec F S16x64x64 .f32) (x3 : Vec F S1024x64 .f32) : Vec F S16x64x64 .f32 :=
  VO1_5.read (Elt F) (VO1_5.writes (Elt F) VO1_5.junk (kernelRun1_A c i arg1 harg1 arg2 harg2 arg3 harg3 arg4 harg4 arg5 harg5 arg6 harg6 arg7 harg7 x0 x1 x2 x3).2.1)

/-- The run's pieces for output 6 tile its block (1 store of `S16x128x64`), so they cover it. -/
theorem cover1_A_6 (c : Dev nD) (i : grid1.Coords) (arg1 : Memref sig .tc .vmem S64x16x16 .f32) (harg1 : arg1.IsWhole) (arg2 : Memref sig .tc .vmem S16x64x64 .f32) (harg2 : arg2.IsWhole) (arg3 : Memref sig .tc .vmem S16x64x64 .f32) (harg3 : arg3.IsWhole) (arg4 : Memref sig .tc .vmem S1024x64 .f32) (harg4 : arg4.IsWhole) (arg5 : Memref sig .tc .vmem S16x64x64 .f32) (harg5 : arg5.IsWhole) (arg6 : Memref sig .tc .vmem S16x64x64 .f32) (harg6 : arg6.IsWhole) (arg7 : Memref sig .tc .vmem S16x128x64 .f32) (harg7 : arg7.IsWhole)
    (x0 : Vec F S64x16x16 .f32) (x1 : Vec F S16x64x64 .f32) (x2 : Vec F S16x64x64 .f32) (x3 : Vec F S1024x64 .f32) (y : S16x128x64.Idx) :
    ∃ pc ∈ (kernelRun1_A c i arg1 harg1 arg2 harg2 arg3 harg3 arg4 harg4 arg5 harg5 arg6 harg6 arg7 harg7 x0 x1 x2 x3).2.2.1, y ∈ pc.1.set :=
  View.cover_of_tiledL (kernelRun1_A c i arg1 harg1 arg2 harg2 arg3 harg3 arg4 harg4 arg5 harg5 arg6 harg6 arg7 harg7 x0 x1 x2 x3).2.2.1 S16x128x64.size (by sl_kernel_rfl) y

/-- What the run leaves in output 6's staging buffer: its pieces read back over junk. -/
def out1_A_6 (c : Dev nD) (i : grid1.Coords) (arg1 : Memref sig .tc .vmem S64x16x16 .f32) (harg1 : arg1.IsWhole) (arg2 : Memref sig .tc .vmem S16x64x64 .f32) (harg2 : arg2.IsWhole) (arg3 : Memref sig .tc .vmem S16x64x64 .f32) (harg3 : arg3.IsWhole) (arg4 : Memref sig .tc .vmem S1024x64 .f32) (harg4 : arg4.IsWhole) (arg5 : Memref sig .tc .vmem S16x64x64 .f32) (harg5 : arg5.IsWhole) (arg6 : Memref sig .tc .vmem S16x64x64 .f32) (harg6 : arg6.IsWhole) (arg7 : Memref sig .tc .vmem S16x128x64 .f32) (harg7 : arg7.IsWhole)
    (x0 : Vec F S64x16x16 .f32) (x1 : Vec F S16x64x64 .f32) (x2 : Vec F S16x64x64 .f32) (x3 : Vec F S1024x64 .f32) : Vec F S16x128x64 .f32 :=
  VO1_6.read (Elt F) (VO1_6.writes (Elt F) VO1_6.junk (kernelRun1_A c i arg1 harg1 arg2 harg2 arg3 harg3 arg4 harg4 arg5 harg5 arg6 harg6 arg7 harg7 x0 x1 x2 x3).2.2.1)

/-! ## What the outputs hold after each point -/

/-- What the outputs' staging buffers hold after the body at point `t` (as a tuple, in window order): the run's contents at
    the point's memrefs and input blocks. -/
def outsAt1 (c : Dev nD) (t : Fin cfg1.N) : Vec F S16x64x64 .f32 × Vec F S16x64x64 .f32 × Vec F S16x128x64 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t))

/-! ## The pipeline's proof data -/

/-- The proof data of pipeline 1 on core `c`: the arrays as the region finds them (`V`); after the body at
    point `t` each input's buffer at its block and the outputs' at `outsAt1`; the invariant that the scratch is owned
    ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2.1
    | ⟨6, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2.1 := by dsimp only [dat1]
theorem after1_6 (c : Dev nD) (t : Fin cfg1.N) : (dat1 V c).after 6 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outsAt1
  unfold out1_A_4 out1_A_5 out1_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ (iblk1 V c 0 t) (iblk1 V c 1 t) (iblk1 V c 2 t) (iblk1 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _)
  isplitl [H5]
  · unfold owns; iexists _; isplitr
    swap; · iexact H5
    ipureintro; exact View.read_writes_of_cover _ _ _ _ _ (cover1_A_5 c _ _ _ _ _ _ _ _ _ _ _ _ _ _ _ _ _ _ _)
  unfold owns; iexists _; isplitr
  swap; · iexact H6
  ipureintro; exact View.read_writes_of_cover _ _ _ _ _ (cover1_A_6 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KernelIdealRun.Region2.lean ====
/- The third region (two sweeps of sixteen points, a scratch buffer carried along a sweep): what its body leaves in each buffer at a point, and the obligation the pipeline asks of it. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch -/

/-- The condition of the body's branch, from the grid coordinates. -/
abbrev cond2_0 (i : grid2.Coords) : Prop := (Scalar.cmpi .ne (Scalar.extui (Scalar.cmpi .eq (BitVec.ofNat 32 (i 1).val) 0#32)) 0#32) = 1#1
/-- It holds at the first point of each sweep. -/
theorem hcond2_0 : ∀ t : Fin cfg2.N, cond2_0 (grid2.coords t) ↔ t.val % 16 = 0 :=
  (fun t => by
    have ht : t.val < 32 := Nat.lt_of_lt_of_eq t.isLt N_2
    have e0 : (grid2.coords t 0).val = t.val / 16 % 2 := Pipeline.Grid.coords_val t 0 (by decide) rfl
    have e1 : (grid2.coords t 1).val = t.val / 1 % 16 := Pipeline.Grid.coords_val t 1 (by decide) rfl
    simp only [cond2_0, e0, e1]
    word_cmp
   : ∀ t : Fin grid2.N, cond2_0 (grid2.coords t) ↔ t.val % 16 = 0)

/-- One staging buffer of each output window, through which its contents are stated. -/
abbrev VO2_9 : View sig .tc .vmem S64x64 .f32 := (Memref.whole cc2_stg9_0 : Memref sig .tc .vmem S64x64 .f32).view
abbrev VO2_10 : View sig .tc .vmem S64x512 .f32 := (Memref.whole cc2_stg10_0 : Memref sig .tc .vmem S64x512 .f32).view
/-- Each window's current staging buffer at point `t`, and its wholeness. -/
abbrev ms2_0 (t : Fin cfg2.N) : Memref sig .tc .vmem S64x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S8x64x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S8x64x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S8x128x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S64x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S64x512 .f32 := win2_10.stage (cfg2.slots t 10)
abbrev hs2_10 (t : Fin cfg2.N) : (ms2_10 t).IsWhole := hstage2_10 ((cfg2.slots t 10).cast nbuf2_10)
/-- The carried scratch buffer. -/
abbrev scM2 : Memref sig .tc .vmem S64x64 .f32 := Memref.whole cc2_scratch0
/-- The same as a view. -/
abbrev VS2 : View sig .tc .vmem S64x64 .f32 := scM2.view

/-- The region's invariant before its first point: the carried scratch at anything, the other scoped buffers unopened,
    the generator register at some state. -/
theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [scM2, owns_whole]; try rfl

/-! ## The body on any staging buffers -/

-- (the run's proof term is large)
set_option maxHeartbeats 1000000 in
/-- At the first point of a sweep: what the body's stores leave in each output and in the carried scratch, with the proof
    that on whole buffers (the inputs' at their contents, the rest at anything) the body runs to the
    continuation holding the inputs' as they were and the others with those pieces written. -/
noncomputable def kernelRun2_A (c : Dev nD) (i : grid2.Coords) (arg2 : Memref sig .tc .vmem S64x64 .f32) (harg2 : arg2.IsWhole) (arg3 : Memref sig .tc .vmem S64x512 .f32) (harg3 : arg3.IsWhole) (arg4 : Memref sig .tc .vmem S1x64 .f32) (harg4 : arg4.IsWhole) (arg5 : Memref sig .tc .vmem S8x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S8x64x64 .f32) (harg8 : arg8.IsWhole) (arg9 : Memref sig .tc .vmem S8x64x64 .f32) (harg9 : arg9.IsWhole) (arg10 : Memref sig .tc .vmem S8x128x64 .f32) (harg10 : arg10.IsWhole) (arg11 : Memref sig .tc .vmem S64x64 .f32) (harg11 : arg11.IsWhole) (arg12 : Memref sig .tc .vmem S64x512 .f32) (harg12 : arg12.IsWhole) (arg13 : Memref sig .tc .vmem S64x64 .f32) (harg13 : arg13.IsWhole) (hc0 : cond2_0 i)
    (x0 : Vec F S64x64 .f32) (x1 : Vec F S64x512 .f32) (x2 : Vec F S1x64 .f32) (x3 : Vec F S8x64 .f32) (x4 : Vec F S64x64 .f32) (x5 : Vec F S64x64 .f32) (x6 : Vec F S8x64x64 .f32) (x7 : Vec F S8x64x64 .f32) (x8 : Vec F S8x128x64 .f32) :
    Σ' (L9 : List (View.Piece (Elt F) S64x64 .f32)), Σ' (L10 : List (View.Piece (Elt F) S64x512 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc2__apply_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc2__apply_kernel_eq_skeleton]; unfold cc2__apply_kernel_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS0

-- (the run's proof term is large)
set_option maxHeartbeats 1000000 in
/-- At any other point: the same, the carried scratch entered at what the point before left, and window 9's buffer left
    as it was. -/
noncomputable def kernelRun2_B (c : Dev nD) (i : grid2.Coords) (arg2 : Memref sig .tc .vmem S64x64 .f32) (harg2 : arg2.IsWhole) (arg3 : Memref sig .tc .vmem S64x512 .f32) (harg3 : arg3.IsWhole) (arg4 : Memref sig .tc .vmem S1x64 .f32) (harg4 : arg4.IsWhole) (arg5 : Memref sig .tc .vmem S8x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S8x64x64 .f32) (harg8 : arg8.IsWhole) (arg9 : Memref sig .tc .vmem S8x64x64 .f32) (harg9 : arg9.IsWhole) (arg10 : Memref sig .tc .vmem S8x128x64 .f32) (harg10 : arg10.IsWhole) (arg11 : Memref sig .tc .vmem S64x64 .f32) (harg11 : arg11.IsWhole) (arg12 : Memref sig .tc .vmem S64x512 .f32) (harg12 : arg12.IsWhole) (arg13 : Memref sig .tc .vmem S64x64 .f32) (harg13 : arg13.IsWhole) (hc0 : ¬cond2_0 i)
    (x0 : Vec F S64x64 .f32) (x1 : Vec F S64x512 .f32) (x2 : Vec F S1x64 .f32) (x3 : Vec F S8x64 .f32) (x4 : Vec F S64x64 .f32) (x5 : Vec F S64x64 .f32) (x6 : Vec F S8x64x64 .f32) (x7 : Vec F S8x64x64 .f32) (x8 : Vec F S8x128x64 .f32) (x9 : Vec F S64x64 .f32) (xs0 : Vec F S64x64 .f32) :
    Σ' (L10 : List (View.Piece (Elt F) S64x512 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc2__apply_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc2__apply_kernel_eq_skeleton]; unfold cc2__apply_kernel_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

/-- The run at point `t`, the first of a sweep. -/
abbrev runA2 (c : Dev nD) (t : Fin cfg2.N) (h : t.val % 16 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((hcond2_0 t).mpr h) (iblk2 V c 0 t) (iblk2 V c 1 t) (iblk2 V c 2 t) (iblk2 V c 3 t) (iblk2 V c 4 t) (iblk2 V c 5 t) (iblk2 V c 6 t) (iblk2 V c 7 t) (iblk2 V c 8 t)
/-- The run at point `t`, not the first of a sweep, over what the point before left. -/
abbrev runB2 (c : Dev nD) (t : Fin cfg2.N) (h : ¬t.val % 16 = 0) (x9 acc : Vec F S64x64 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) (fun h' => h ((hcond2_0 t).mp h')) (iblk2 V c 0 t) (iblk2 V c 1 t) (iblk2 V c 2 t) (iblk2 V c 3 t) (iblk2 V c 4 t) (iblk2 V c 5 t) (iblk2 V c 6 t) (iblk2 V c 7 t) (iblk2 V c 8 t) x9 acc

/-- The stores at the first point of a sweep cover window 9's block. -/
theorem cover2_A_9 (c : Dev nD) (t : Fin cfg2.N) (h : t.val % 16 = 0) (y : S64x64.Idx) : ∃ pc ∈ (runA2 V c t h).1, y ∈ pc.1.set :=
  View.cover_of_tiledL (runA2 V c t h).1 S64x64.size (by sl_kernel_rfl) y
/-- They cover window 10's block. -/
theorem cover2_A_10 (c : Dev nD) (t : Fin cfg2.N) (h : t.val % 16 = 0) (y : S64x512.Idx) : ∃ pc ∈ (runA2 V c t h).2.1, y ∈ pc.1.set :=
  View.cover_of_tiledL (runA2 V c t h).2.1 S64x64.size (by sl_kernel_rfl) y
/-- They cover the carried scratch. -/
theorem scover2_A (c : Dev nD) (t : Fin cfg2.N) (h : t.val % 16 = 0) (y : S64x64.Idx) : ∃ pc ∈ (runA2 V c t h).2.2.1, y ∈ pc.1.set :=
  View.cover_of_tiledL (runA2 V c t h).2.2.1 S64x64.size (by sl_kernel_rfl) y
/-- The stores at any other point cover window 10's block. -/
theorem cover2_B_10 (c : Dev nD) (t : Fin cfg2.N) (h : ¬t.val % 16 = 0) (x9 acc : Vec F S64x64 .f32) (y : S64x512.Idx) :
    ∃ pc ∈ (runB2 V c t h x9 acc).1, y ∈ pc.1.set :=
  View.cover_of_tiledL (runB2 V c t h x9 acc).1 S64x64.size (by sl_kernel_rfl) y
/-- They cover the carried scratch. -/
theorem scover2_B (c : Dev nD) (t : Fin cfg2.N) (h : ¬t.val % 16 = 0) (x9 acc : Vec F S64x64 .f32) (y : S64x64.Idx) :
    ∃ pc ∈ (runB2 V c t h x9 acc).2.1, y ∈ pc.1.set :=
  View.cover_of_tiledL (runB2 V c t h x9 acc).2.1 S64x64.size (by sl_kernel_rfl) y

/-- What the first point of a sweep leaves: window 9's buffer, window 10's buffer, the carried scratch. -/
def outA2 (c : Dev nD) (t : Fin cfg2.N) (h : t.val % 16 = 0) : Vec F S64x64 .f32 × Vec F S64x512 .f32 × Vec F S64x64 .f32 :=
  (VO2_9.read (Elt F) (VO2_9.writes (Elt F) VO2_9.junk (runA2 V c t h).1),
   VO2_10.read (Elt F) (VO2_10.writes (Elt F) VO2_10.junk (runA2 V c t h).2.1),
   VS2.read (Elt F) (VS2.writes (Elt F) VS2.junk (runA2 V c t h).2.2.1))
/-- What any other point leaves, over what the point before left (`p`). -/
def outB2 (c : Dev nD) (t : Fin cfg2.N) (h : ¬t.val % 16 = 0) (p : Vec F S64x64 .f32 × Vec F S64x512 .f32 × Vec F S64x64 .f32) :
    Vec F S64x64 .f32 × Vec F S64x512 .f32 × Vec F S64x64 .f32 :=
  (p.1,
   VO2_10.read (Elt F) (VO2_10.writes (Elt F) VO2_10.junk (runB2 V c t h p.1 p.2.2).1),
   VS2.read (Elt F) (VS2.writes (Elt F) VS2.junk (runB2 V c t h p.1 p.2.2).2.1))

/-- What the two outputs' buffers and the carried scratch hold after the body at position `n`. -/
def outsAt2 (c : Dev nD) : (n : ℕ) → n < cfg2.N → Vec F S64x64 .f32 × Vec F S64x512 .f32 × Vec F S64x64 .f32
  | 0, hn => outA2 V c ⟨0, hn⟩ (Nat.zero_mod _)
  | n + 1, hn =>
    if h0 : (n + 1) % 16 = 0 then outA2 V c ⟨n + 1, hn⟩ h0
    else outB2 V c ⟨n + 1, hn⟩ h0 (outsAt2 c n (Nat.lt_of_succ_lt hn))

/-- `outsAt2` at the first point of a sweep. -/
theorem outsAt2_A (c : Dev nD) (t : Fin cfg2.N) (h0 : t.val % 16 = 0) : outsAt2 V c t.val t.isLt = outA2 V c t h0 := by
  obtain ⟨n, hn⟩ := t
  cases n with
  | zero => exact rfl
  | succ n => exact (dif_pos h0).trans rfl

/-- `outsAt2` at any other point. -/
theorem outsAt2_B (c : Dev nD) (t : Fin cfg2.N) (h0 : ¬t.val % 16 = 0) :
    outsAt2 V c t.val t.isLt = outB2 V c t h0 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The scoped buffers the region does not touch, unopened. -/
abbrev rest2 (c : Dev nD) : sProp 𝕄 :=
  Pipeline.scopedRestBut (Ix := Unit) (Name := ℕ) (U := UR sig nD τ) (Lvl := ℕ) (Val := Elt F) spec2 c [cc2_scratch0]

/-- The region's invariant before position `n`: at first the scratch at anything; afterwards at what the point before left. -/
def PhiS2 (c : Dev nD) : (n : ℕ) → n ≤ cfg2.N → sProp 𝕄
  | 0, _ => Pipeline.ΦA spec2 c
  | n + 1, hn => iprop((owns (c : Thread nD τ) scM2 fullShare ((outsAt2 V c n hn).2.2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = iprop((owns (c : Thread nD τ) scM2 fullShare ((outsAt2 V c (n - 1) (by omega)).2.2) ∗ rest2 c) ∗ (∃ r, prngReg c r)) := by
  cases n with
  | zero => exact absurd rfl hz
  | succ n => rfl

/-- The invariant at any position gives the scratch at some contents. -/
theorem PhiS2_any (c : Dev nD) (n : ℕ) (h : n ≤ cfg2.N) :
    PhiS2 V c n h ⊢ iprop(((∃ d, owns (c : Thread nD τ) scM2 fullShare d) ∗ rest2 c) ∗ (∃ r, prngReg c r)) := by
  by_cases hz : n = 0
  · rw [PhiS2_zero V c n h hz, PhiA2_eq]
  · rw [PhiS2_pos V c n h hz]
    iintro ⟨⟨HS, Hr⟩, Hg⟩
    isplitl [HS Hr]
    · isplitl [HS]
      · iexists _; iexact HS
      iexact Hr
    iexact Hg

/-- The proof data of the third region on core `c`: the arrays as the region finds them; after the body each input's
    buffer at its block and the outputs' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
    | ⟨10, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]
theorem after2_10 (c : Dev nD) (t : Fin cfg2.N) : (dat2 V c).after 10 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- Window 9 is idle (not stored into) exactly past the first point of a sweep. -/
theorem idle2_9 (t : Fin cfg2.N) : cfg2.idle 9 (cfg2.grid.coords t) = !decide (t.val % 16 = 0) := by
  have h : cfg2.idle 9 (cfg2.grid.coords t) = !(decide (cond2_0 (grid2.coords t))) := rfl
  rw [h, decide_eq_decide.mpr (hcond2_0 t)]

/-- Past the first point of a sweep window 9's buffer still holds what the point before left: it is written back only
    after the sweep's last point. -/
theorem before2_9_idle (c : Dev nD) : ∀ (n : ℕ) (hn : n < cfg2.N) (_ : ¬n % 16 = 0) (d),
    (dat2 V c).before 9 ⟨n, hn⟩ d = (outsAt2 V c (n - 1) (Nat.lt_of_le_of_lt (Nat.sub_le _ _) hn)).1
  | 0, _, h0, _ => absurd (Nat.zero_mod _) h0
  | n + 1, hn, h0, d => by
    have hN : n < cfg2.N := by omega
    have hfl : (cfg2.win 9).flush ⟨n, hN⟩ = false := Bool.eq_false_iff.mpr fun hf => by
      have h15 : n % 16 = 15 := (flush2_9 _).mp hf
      omega
    rw [(dat2 V c).before_of_pos 9 ⟨n + 1, hn⟩ (Nat.succ_ne_zero n) ((cfg2.win 9).fetch_out rfl _) d]
    show (if (cfg2.win 9).flush ⟨n, hN⟩ then d else (dat2 V c).left 9 ⟨n, hN⟩ d) = (outsAt2 V c n hN).1
    rw [hfl, if_neg Bool.false_ne_true]
    unfold Dat.left
    have hi := idle2_9 ⟨n, hN⟩
    by_cases h : n % 16 = 0
    · rw [show (decide ((⟨n, hN⟩ : Fin cfg2.N).val % 16 = 0)) = true from decide_eq_true h] at hi
      rw [hi]
      show (dat2 V c).kept 9 ⟨n, hN⟩ d = _
      unfold Dat.kept
      rw [Pipeline.fill_of_clip_none (cfg := cfg2) 9 _ (fun _ => rfl) d ((dat2 V c).after 9 _), Pipeline.Window.fill_cut]
      exact after2_9 V c _
    · rw [show (decide ((⟨n, hN⟩ : Fin cfg2.N).val % 16 = 0)) = false from decide_eq_false h] at hi
      rw [hi]
      show (dat2 V c).before 9 ⟨n, hN⟩ d = _
      rw [before2_9_idle c n hN h d]
      rw [outsAt2_B V c ⟨n, hN⟩ h]; rfl

theorem before2_9_B (c : Dev nD) (t : Fin cfg2.N) (h0 : ¬t.val % 16 = 0) (d) :
    (dat2 V c).before 9 t d = (outsAt2 V c (t.val - 1) (Nat.lt_of_le_of_lt (Nat.sub_le _ _) t.isLt)).1 :=
  before2_9_idle V c t.val t.isLt h0 d

/-- Window 9's buffer at what the point leaves is what the pipeline asks of it: at an idle point, what the body found. -/
theorem leaves2_9 (c : Dev nD) (t : Fin cfg2.N) :
    owns (c : Thread nD τ) (ms2_9 t) fullShare ((outsAt2 V c t.val t.isLt).1) ⊢ ((dat2 V c).leavesExact 9 t : sProp 𝕄) := by
  have hi := idle2_9 t
  unfold Dat.leavesExact
  by_cases h : t.val % 16 = 0
  · rw [decide_eq_true h] at hi
    rw [hi, after2_9]
    exact Idealize.SL.BI.Entails.refl _
  · rw [decide_eq_false h, Bool.not_false] at hi
    rw [hi]
    cases hf : (cfg2.win 9).flush t
    · iintro H
      iexists (outsAt2 V c t.val t.isLt).1
      rw [before2_9_B V c t h, outsAt2_B V c t h]
      iexact H
    · rw [after2_9]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t))

set_option maxHeartbeats 9600000 in
/-- The body at any point, by the two cases of its branch. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl,
    after2_0, after2_1, after2_2, after2_3, after2_4, after2_5, after2_6, after2_7, after2_8, after2_9, after2_10]
  rw [show (dat2 V c).Φ t.succ = iprop((owns (c : Thread nD τ) scM2 fullShare ((outsAt2 V c t.val t.isLt).2.2) ∗ rest2 c) ∗ (∃ r, prngReg c r)) from rfl]
  rw [PhiS2_castSucc V c t]
  by_cases h0 : t.val % 16 = 0
  · rw [outsAt2_A V c t h0]
    unfold outA2; (try dsimp only)
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HP := (PhiS2_any V c t.val (Nat.le_of_lt t.isLt)) $$ HP
    icases HP with ⟨⟨HS0, Hr⟩, Hg⟩
    iapply ((runA2 V c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    iintro ⟨H0, H1, H2, H3, H4, H5, H6, H7, H8, ⟨%e9, H9⟩, ⟨%e10, H10⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_A V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover2_A_9 V c t h0)
    unfold owns; iexists _; isplitr
    swap; · iexact H10
    ipureintro; exact View.read_writes_of_cover _ _ _ _ _ (cover2_A_10 V c t h0)
  · rw [PhiS2_pos V c _ _ (fun hz => h0 (by rw [hz]))]
    simp only [before2_9_B V c t h0]
    rw [outsAt2_B V c t h0]
    unfold outB2; (try dsimp only)
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB2 V c t h0 _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    iintro ⟨H0, H1, H2, H3, H4, H5, H6, H7, H8, H9, ⟨%e10, H10⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_B V c t h0 _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover2_B_10 V c t h0 _ _)

theorem defs₀_row2 (t : Fin cfg2.N) :
    defs₀ (F := F) .tc cfg2.body (cfg2.bodyArgs t (cfg2.slots t)) = bodyAt2 t := by
  unfold defs₀; rw [Defs.onTc_tc]

/-- The pipeline's obligation, at every point. -/
theorem body_obligation2 (c : Dev nD) : BodyObligation (dat2 (F := F) V c) (defs₀ (F := F)) Variants.none () Set.univ := fun t => by
  rw [bigSep_W2, bigSep_W2, defs₀_row2]
  refine triple_restated (sound_body2 V c t) rfl .rfl fun _ => ?_
  unfold bodyPost2
  iintro ⟨HP, Ho, H0, H1, H2, H3, H4, H5, H6, H7, H8, H9, H10⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [after2_9]
    iapply (leaves2_9 V c t)
    iexact H9
  iexact H10

/-- What the launch hands the region is its invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives it back. -/
theorem hout2 (c : Dev nD) : (dat2 V c).Φ (Fin.last cfg2.N) ⊢ (Pipeline.ΦA spec2 c : sProp 𝕄) := by
  rw [PhiA2_eq, show (dat2 V c).Φ (Fin.last cfg2.N) = PhiS2 V c cfg2.N (Nat.le_refl _) from rfl]; exact PhiS2_any V c _ _

end Cert.KernelIdeal.Whole

end
-- ==== Proof.KernelIdealRun.Launch.lean ====
/- The whole program: its segments from the launch to the return, and what every buffer holds at the end. -/
module

public import proofs.«01_k».proof.Proof.KernelIdealRun.Region0
public import proofs.«01_k».proof.Proof.KernelIdealRun.Region1
public import proofs.«01_k».proof.Proof.KernelIdealRun.Region2

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4]

/-! ## The host stretches: none allocates a buffer, and each lists the references its operations write -/

theorem hostOps0_fresh : (hostOps0 : List (HloOp τ sig (Elt F))).Forall fun op => op.fresh = ∅ := by
  simp only [List.Forall]; repeat' constructor
/-- The references the operations of `hostOps0` write. -/
abbrev hostOps0_W : List (Ref sig .tc) := [main_call0_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
/-- The references the operations of `hostOps2` write. -/
abbrev hostOps2_W : List (Ref sig .tc) := [main_call0_v3, main_call0_v4, main_call0_v5, main_call0_v6, main_call0_v7, main_call0_v8]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
/-- The references the operations of `hostOps3` write. -/
abbrev hostOps3_W : List (Ref sig .tc) := [main_v0]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-! ## The buffer contents at each boundary between segments -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references. -/
abbrev V1 : (c : Dev nD) → (b : Ref sig .tc) → Buf (Elt F) ((c : Thread nD τ).loc b) := fun c b => W1 m ρ c b

/-- At the exit of region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of the region's output arrays keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the exit of region 1: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of the region's output arrays keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references. -/
abbrev V4 : (c : Dev nD) → (b : Ref sig .tc) → Buf (Elt F) ((c : Thread nD τ).loc b) := fun c b => W4 m ρ c b

/-- At the exit of region 2: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of the region's output arrays keeps its contents across it. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references. -/
abbrev V6 : (c : Dev nD) → (b : Ref sig .tc) → Buf (Elt F) ((c : Thread nD τ).loc b) := fun c b => W6 m ρ c b

/-! ## The proof data of the three pipelines and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state  and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

-- unification may unfold plain definitions in a metavariable's type here
set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification may unfold plain definitions in a metavariable's type here
set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification may unfold plain definitions in a metavariable's type here
set_option backward.isDefEq.respectTransparency.types false in
/-- Region 2 over the thread state: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hphi := hin2 (V4 m ρ) c
    rw [show (pdats m ρ 2 c).Φ 0 = (dat2 (V4 m ρ) c).Φ 0 from rfl]
    unfold Pipeline.ΦA at hphi
    iintro ⟨Hp, -, Hr⟩
    iapply hphi
    isplitl [Hr]; · iexact Hr
    iexact Hp
  hout c := by
    rw [Pipeline.ownSems0_none]
    have hphi := hout2 (V4 m ρ) c
    rw [show (pdats m ρ 2 c).Φ (Fin.last _) = (dat2 (V4 m ρ) c).Φ (Fin.last cfg2.N) from rfl]
    unfold Pipeline.ΦA at hphi
    iintro H
    ihave H2 := hphi $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- The program is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- unification may unfold plain definitions in a metavariable's type here
set_option backward.isDefEq.respectTransparency.types false in
/-- From any memory with zero counters every weakly fair execution terminates without a fault, and every final state has
    every unscoped buffer at the last boundary's contents and every semaphore counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      rw [show (Pipeline.Seg.host (hseg hostOps3 hostOps3_sub hostOps3_fresh (W5 m ρ))).post c = iprop(StableHlo.held (c : Thread nD τ) (Pipeline.ucRefs τ sig) (W6 m ρ c) ∗ R c) from rfl]
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c => h c, funext fun g => hz g (.inr (no_unscoped g.2))⟩)

/-- The same read at the arguments, which end as launched, and at the result. -/
theorem run_result : θ_run defs (onTc (τ := τ) (main (F := F))) ⟨m, fun _ => 0, ρ⟩ (fun r => (∀ c : Dev nD,
      (∀ a ∈ argRefs, r.2.mem ((c.tc : Thread nD τ).loc a) = m ((c.tc : Thread nD τ).loc a))
      ∧ r.2.mem ((c.tc : Thread nD τ).loc main_v0) = W6 m ρ c (Proc.devRef .tc main_v0))
      ∧ r.2.sem = fun _ => 0) :=
  (θ_run defs _ _).mono (fun _ h => ⟨fun c => ⟨fun a ha =>
      ((h.1 c) _ (mem_uc a ((by decide : ∀ a ∈ argRefs, ¬ (Proc.devRef .tc a : DevRef τ sig).isScoped) a ha))).trans (W6_args m ρ c a ha),
      (h.1 c) _ (mem_uc main_v0 (by decide))⟩, h.2⟩) (run_main m ρ)

/-- Every final state has the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => by
    have ha := (h.1 c).1
    exact ⟨ha _ (by decide), ha _ (by decide), ha _ (by decide), ha _ (by decide), ha _ (by decide)⟩, h.2⟩) (run_result m ρ)

end Cert.KernelIdeal.Whole

end
-- ==== Proof.RefFrame.lean ====
/- The frame of the reference program: it runs to its end from any memory, leaves its arguments as they were, and has no
   semaphore, so every counter reads zero at every final state. -/
module

public import proofs.«01_k».proof.Defs
public import proofs.«01_k».proof.Proof.Gen.ReferenceIdeal.Run
public import Idealize.ShloMosaic.Lib.Quiescent

@[expose] public section

noncomputable section

namespace Cert.RefFrame

open Idealize.ShloMosaic Idealize.SL.Sem

/-- `Cert.quiescent_ReferenceIdeal`: the run of the reference, read at the five arguments. -/
theorem frame : Cert.quiescent_ReferenceIdeal (hReferenceIdeal := Cert.ReferenceIdeal.Gen.facts) := fun m g _ =>
  (θ_run _ _ _).mono (fun _ h => ⟨fun c => (h c).2, sem_eq_zero_of_no_sems (by decide) _⟩)
    (Cert.ReferenceIdeal.Value.run m g)

end Cert.RefFrame

end
-- ==== Proof.Arrow.Chol.lean ====
/- Cholesky factors of positive definite real matrices: every such matrix has one. -/
module

public import Mathlib.LinearAlgebra.Matrix.Block
public import Mathlib.LinearAlgebra.Matrix.NonsingularInverse
public import Mathlib.Analysis.Real.Sqrt
public import Mathlib.Algebra.BigOperators.Fin
public import Mathlib.Tactic.Ring
public import Mathlib.Tactic.FieldSimp
public import Mathlib.Tactic.Positivity
public import Mathlib.Tactic.Linarith
public import Mathlib.Tactic.NoncommRing

@[expose] public section

noncomputable section

namespace Cert.Arrow

open Matrix

/-- `G` is a Cholesky factor of `A`: lower triangular, its diagonal positive, and `A = G Gᵀ`. -/
structure IsChol {n : ℕ} (A G : Matrix (Fin n) (Fin n) ℝ) : Prop where
  lower : ∀ i j, i < j → G i j = 0
  pos : ∀ i, 0 < G i i
  eq : A = G * Gᵀ

/-- `A` is symmetric and positive definite. -/
structure PD {n : ℕ} (A : Matrix (Fin n) (Fin n) ℝ) : Prop where
  symm : ∀ i j, A i j = A j i
  pos : ∀ x : Fin n → ℝ, x ≠ 0 → 0 < ∑ i, ∑ j, x i * A i j * x j

/-- `A` is symmetric and positive semidefinite. -/
structure PS {n : ℕ} (A : Matrix (Fin n) (Fin n) ℝ) : Prop where
  symm : ∀ i j, A i j = A j i
  nonneg : ∀ x : Fin n → ℝ, 0 ≤ ∑ i, ∑ j, x i * A i j * x j

variable {n : ℕ}

/-- A lower triangular matrix with a positive diagonal is invertible. -/
theorem isUnit_det_of_lower {G : Matrix (Fin n) (Fin n) ℝ} (hl : ∀ i j, i < j → G i j = 0) (hp : ∀ i, 0 < G i i) :
    IsUnit G.det := by
  have : G.det = ∏ i, G i i := Matrix.det_of_isLowerTriangular G (by
    intro i j hij
    exact hl i j (by simpa using hij))
  rw [this]
  exact (Finset.prod_pos fun i _ => hp i).ne'.isUnit

theorem IsChol.isUnit {A G : Matrix (Fin n) (Fin n) ℝ} (h : IsChol A G) : IsUnit G.det :=
  isUnit_det_of_lower h.lower h.pos

/-- Every positive definite matrix has a Cholesky factor. -/
theorem exists_chol : ∀ {n : ℕ} (A : Matrix (Fin n) (Fin n) ℝ), PD A → ∃ G, IsChol A G := by
  intro n
  induction n with
  | zero => intro A _; exact ⟨1, fun i => i.elim0, fun i => i.elim0, by ext i; exact i.elim0⟩
  | succ n ih =>
    intro A hA
    have ha : 0 < A 0 0 := by
      have := hA.pos (Pi.single 0 1) (by simp)
      simpa [Fin.sum_univ_succ] using this
    set a := A 0 0 with hadef
    let M : Matrix (Fin n) (Fin n) ℝ := fun i j => A i.succ j.succ - A i.succ 0 * A j.succ 0 / a
    have hM : PD M := by
      refine ⟨fun i j => ?_, fun y hy => ?_⟩
      · simp only [M]; rw [hA.symm i.succ j.succ]; ring
      · set s : ℝ := ∑ j : Fin n, A j.succ 0 * y j with hs
        have hx : (Fin.cons (-s / a) y : Fin (n + 1) → ℝ) ≠ 0 := by
          intro h
          apply hy
          funext j
          have := congrFun h j.succ
          simpa using this
        have h1 := hA.pos _ hx
        simp only [Fin.sum_univ_succ, Fin.cons_zero, Fin.cons_succ, Finset.sum_add_distrib] at h1
        have e1 : ∑ j : Fin n, -s / a * A 0 j.succ * y j = -s / a * s := by
          rw [hs, Finset.mul_sum]
          refine Finset.sum_congr rfl fun j _ => ?_
          rw [hA.symm 0 j.succ]; ring
        have e2 : ∑ i : Fin n, y i * A i.succ 0 * (-s / a) = -s / a * s := by
          conv_rhs => rw [hs, Finset.mul_sum]
          refine Finset.sum_congr rfl fun j _ => ?_
          ring
        have e3 : ∑ i : Fin n, ∑ j : Fin n, y i * M i j * y j
            = (∑ i : Fin n, ∑ j : Fin n, y i * A i.succ j.succ * y j) - s * s / a := by
          have : s * s / a = ∑ i : Fin n, ∑ j : Fin n, y i * (A i.succ 0 * A j.succ 0 / a) * y j := by
            rw [hs, div_eq_mul_inv, Finset.sum_mul_sum, Finset.sum_mul]
            refine Finset.sum_congr rfl fun i _ => ?_
            rw [Finset.sum_mul]
            refine Finset.sum_congr rfl fun j _ => ?_
            ring
          rw [this, ← Finset.sum_sub_distrib]
          refine Finset.sum_congr rfl fun i _ => ?_
          rw [← Finset.sum_sub_distrib]
          refine Finset.sum_congr rfl fun j _ => ?_
          simp only [M]; ring
        rw [e1, e2] at h1
        rw [e3]
        have e4 : -s / a * A 0 0 * (-s / a) = s * s / a := by
          rw [← hadef]; field_simp
        rw [e4] at h1
        have e5 : -s / a * s = - (s * s / a) := by ring
        rw [e5] at h1
        linarith
    obtain ⟨G, hG⟩ := ih M hM
    have hsa : √a * √a = a := Real.mul_self_sqrt ha.le
    have hs0 : √a ≠ 0 := (Real.sqrt_pos.mpr ha).ne'
    refine ⟨Matrix.of fun i j => Fin.cases (Fin.cases (√a) (fun _ => 0) j) (fun i' => Fin.cases (A i'.succ 0 / √a) (fun j' => G i' j') j) i, ?_, ?_, ?_⟩
    · intro i j hij
      refine Fin.cases (fun h => ?_) (fun j' h => ?_) j hij
      · exact absurd h (Fin.not_lt_zero _)
      · refine Fin.cases (fun _ => rfl) (fun i' h' => ?_) i h
        exact hG.lower i' j' (by simpa using h')
    · intro i
      refine Fin.cases ?_ (fun i' => ?_) i
      · exact Real.sqrt_pos.mpr ha
      · exact hG.pos i'
    · ext i j
      rw [Matrix.mul_apply, Fin.sum_univ_succ]
      have hMG : ∀ i j, M i j = ∑ l, G i l * G j l := fun i j => by
        conv_lhs => rw [hG.eq]
        rw [Matrix.mul_apply]; rfl
      refine Fin.cases ?_ (fun i' => ?_) i <;> refine Fin.cases ?_ (fun j' => ?_) j
      · simp [Matrix.transpose_apply, ← hadef, hsa]
      · simp only [Matrix.transpose_apply, Matrix.of_apply, Fin.cases_zero, Fin.cases_succ, zero_mul, Finset.sum_const_zero, add_zero]
        rw [hA.symm 0 j'.succ]; field_simp
      · simp only [Matrix.transpose_apply, Matrix.of_apply, Fin.cases_zero, Fin.cases_succ, mul_zero, Finset.sum_const_zero, add_zero]
        field_simp
      · simp only [Matrix.transpose_apply, Matrix.of_apply, Fin.cases_zero, Fin.cases_succ]
        rw [← hMG]
        simp only [M]
        have : A i'.succ 0 / √a * (A j'.succ 0 / √a) = A i'.succ 0 * A j'.succ 0 / a := by
          rw [div_mul_div_comm, hsa]
        rw [this]; ring

open Classical in
/-- A matrix's Cholesky factor, where it has one. -/
def chol (A : Matrix (Fin n) (Fin n) ℝ) : Matrix (Fin n) (Fin n) ℝ :=
  if h : ∃ G, IsChol A G then h.choose else 1

/-- Of a positive definite matrix `chol` is a Cholesky factor. -/
theorem isChol_chol {A : Matrix (Fin n) (Fin n) ℝ} (hA : PD A) : IsChol A (chol A) := by
  have h := exists_chol A hA
  unfold chol
  rw [dif_pos h]
  exact h.choose_spec

/-- The quadratic form of a Gram matrix is a sum of squares. -/
theorem ps_mul_transpose {m : ℕ} (N : Matrix (Fin n) (Fin m) ℝ) : PS (N * Nᵀ) := by
  refine ⟨fun i j => ?_, fun x => ?_⟩
  · simp only [Matrix.mul_apply, Matrix.transpose_apply]
    exact Finset.sum_congr rfl fun l _ => mul_comm _ _
  · have : ∑ i, ∑ j, x i * (N * Nᵀ) i j * x j = ∑ l, (∑ i, x i * N i l) * (∑ j, x j * N j l) := by
      simp only [Matrix.mul_apply, Matrix.transpose_apply, Finset.sum_mul_sum, Finset.mul_sum, Finset.sum_mul]
      conv_rhs => rw [Finset.sum_comm]
      refine Finset.sum_congr rfl fun i _ => ?_
      rw [Finset.sum_comm]
      refine Finset.sum_congr rfl fun j _ => ?_
      refine Finset.sum_congr rfl fun l _ => ?_
      ring
    rw [this]
    exact Finset.sum_nonneg fun l _ => mul_self_nonneg _

theorem ps_zero : PS (0 : Matrix (Fin n) (Fin n) ℝ) := ⟨fun _ _ => rfl, fun x => by simp⟩

theorem PS.add {A B : Matrix (Fin n) (Fin n) ℝ} (hA : PS A) (hB : PS B) : PS (A + B) := by
  refine ⟨fun i j => by rw [Matrix.add_apply, Matrix.add_apply, hA.symm, hB.symm], fun x => ?_⟩
  have : ∑ i, ∑ j, x i * (A + B) i j * x j = (∑ i, ∑ j, x i * A i j * x j) + ∑ i, ∑ j, x i * B i j * x j := by
    rw [← Finset.sum_add_distrib]
    refine Finset.sum_congr rfl fun i _ => ?_
    rw [← Finset.sum_add_distrib]
    refine Finset.sum_congr rfl fun j _ => ?_
    rw [Matrix.add_apply]; ring
  rw [this]
  exact add_nonneg (hA.nonneg x) (hB.nonneg x)

/-- A positive semidefinite matrix plus a positive multiple of the identity is positive definite. -/
theorem PS.add_smul {A : Matrix (Fin n) (Fin n) ℝ} (hA : PS A) {c : ℝ} (hc : 0 < c) :
    PD (A + c • (1 : Matrix (Fin n) (Fin n) ℝ)) := by
  refine ⟨fun i j => ?_, fun x hx => ?_⟩
  · rw [Matrix.add_apply, Matrix.add_apply, hA.symm, Matrix.smul_apply, Matrix.smul_apply, Matrix.one_apply, Matrix.one_apply]
    simp only [eq_comm]
  · have : ∑ i, ∑ j, x i * (A + c • (1 : Matrix (Fin n) (Fin n) ℝ)) i j * x j
        = (∑ i, ∑ j, x i * A i j * x j) + c * ∑ i, x i * x i := by
      rw [Finset.mul_sum, ← Finset.sum_add_distrib]
      refine Finset.sum_congr rfl fun i _ => ?_
      have : c * (x i * x i) = ∑ j, x i * (c • (1 : Matrix (Fin n) (Fin n) ℝ)) i j * x j := by
        simp [Matrix.smul_apply, Matrix.one_apply]; ring
      rw [this, ← Finset.sum_add_distrib]
      refine Finset.sum_congr rfl fun j _ => ?_
      rw [Matrix.add_apply]; ring
    rw [this]
    have h2 : 0 < ∑ i, x i * x i := by
      obtain ⟨i, hi⟩ := Function.ne_iff.mp hx
      exact Finset.sum_pos' (fun i _ => mul_self_nonneg _) ⟨i, Finset.mem_univ _, mul_self_pos.mpr hi⟩
    have := hA.nonneg x
    positivity

end Cert.Arrow

end
-- ==== Proof.Arrow.Block.lean ====
/- The block Cholesky factor of the arrow covariance, from small factors only: the algebra of its blocks. -/
module

public import proofs.«01_k».proof.Proof.Arrow.Chol

@[expose] public section

noncomputable section

namespace Cert.Arrow

open Matrix

variable {n : ℕ}

local notation "M" n => Matrix (Fin n) (Fin n) ℝ

/-- The inverse of a matrix plus a Gram matrix, by the inverse of the matrix. -/
theorem woodbury (T Ti V Vt Si : M n) (h1 : T * Ti = 1) (h2 : (1 + V * Ti * Vt) * Si = 1) :
    (T + Vt * V) * (Ti - Ti * Vt * Si * V * Ti) = 1 := by
  have : (T + Vt * V) * (Ti - Ti * Vt * Si * V * Ti)
      = T * Ti + Vt * V * Ti - (T * Ti) * (Vt * Si * V * Ti) - Vt * (((1 + V * Ti * Vt) * Si)) * V * Ti + Vt * Si * V * Ti := by
    noncomm_ring
  rw [this, h1, h2]
  noncomm_ring

/-- `Lᵀ (L Lᵀ + ε)⁻¹ L = 1 - ε (Lᵀ L + ε)⁻¹`. -/
theorem push_through (L A H : M n) (ε : ℝ) (hA : A = L * Lᵀ + ε • (1 : M n)) (hH : H = Lᵀ * L + ε • (1 : M n))
    (hAu : IsUnit A.det) (hHu : IsUnit H.det) : Lᵀ * A⁻¹ * L = 1 - ε • H⁻¹ := by
  have h1 : Lᵀ * A⁻¹ * L * H = H - ε • (1 : M n) := by
    have h2 : L * H = A * L := by
      rw [hA, hH, Matrix.mul_add, Matrix.add_mul, Matrix.mul_smul, Matrix.smul_mul, Matrix.mul_one, Matrix.one_mul, Matrix.mul_assoc]
    rw [Matrix.mul_assoc, h2, Matrix.mul_assoc, ← Matrix.mul_assoc A⁻¹, Matrix.nonsing_inv_mul _ hAu, Matrix.one_mul, hH, add_sub_cancel_right]
  calc Lᵀ * A⁻¹ * L = Lᵀ * A⁻¹ * L * H * H⁻¹ := by rw [Matrix.mul_nonsing_inv_cancel_right _ _ hHu]
    _ = _ := by rw [h1, Matrix.sub_mul, Matrix.mul_nonsing_inv _ hHu, Matrix.smul_mul, Matrix.one_mul]

/-- The inverse of a matrix by the inverse of its Cholesky factor. -/
theorem IsChol.inv_eq {A G : M n} (h : IsChol A G) : A⁻¹ = (G⁻¹)ᵀ * G⁻¹ := by
  conv_lhs => rw [h.eq]
  rw [Matrix.mul_inv_rev, Matrix.transpose_nonsing_inv]

theorem IsChol.isUnit_self {A G : M n} (h : IsChol A G) : IsUnit A.det := by
  rw [h.eq, Matrix.det_mul, Matrix.det_transpose]
  exact h.isUnit.mul h.isUnit

/-- The data of the arrow covariance: the leading factor, the blocks under it and the blocks on the diagonal. -/
structure Data (n : ℕ) where
  /-- the jitter -/
  ε : ℝ
  hε : 0 < ε
  /-- the leading block -/
  L : M n
  /-- the blocks under the leading block -/
  Y : ℕ → M n
  /-- Cholesky factors of the diagonal blocks' own covariance -/
  K : ℕ → M n
  K_lower : ∀ b i j, i < j → K b i j = 0
  K_pos : ∀ b i, 0 < K b i i

namespace Data

variable (d : Data n)

/-- the leading covariance -/
def A : M n := d.L * d.Lᵀ + d.ε • (1 : M n)
/-- its companion -/
def H : M n := d.Lᵀ * d.L + d.ε • (1 : M n)
/-- the leading factor -/
def Gz : M n := chol d.A
/-- the root of what the leading block leaves -/
def R : M n := √d.ε • ((chol d.H)⁻¹)ᵀ
/-- the whitened blocks -/
def V (b : ℕ) : M n := (d.K b)⁻¹ * (d.Y b * d.R)
/-- the identity plus the Gram matrices of the blocks before `b` -/
def T (b : ℕ) : M n := (∑ a ∈ Finset.range b, (d.V a)ᵀ * d.V a) + 1
/-- `T⁻¹ Vᵀ` -/
def W (b : ℕ) : M n := (d.T b)⁻¹ * (d.V b)ᵀ
/-- the whitened diagonal covariance -/
def S (b : ℕ) : M n := 1 + d.V b * d.W b
/-- its factor -/
def D (b : ℕ) : M n := chol (d.S b)
/-- what block `b` adds to the carry, transposed -/
def B (b : ℕ) : M n := d.W b * ((d.D b)⁻¹)ᵀ
/-- the factor's blocks under the leading one -/
def Gbz (b : ℕ) : M n := d.Y b * d.Lᵀ * (d.Gz⁻¹)ᵀ
/-- the factor's blocks left of the diagonal -/
def Gba (b a : ℕ) : M n := d.K b * d.V b * d.B a
/-- the factor's diagonal blocks -/
def Gbb (b : ℕ) : M n := d.K b * d.D b

theorem isChol_A : IsChol d.A d.Gz := isChol_chol ((ps_mul_transpose d.L).add_smul d.hε)

theorem isChol_H : IsChol d.H (chol d.H) := by
  refine isChol_chol ?_
  have := (ps_mul_transpose d.Lᵀ).add_smul d.hε
  rwa [Matrix.transpose_transpose] at this

theorem pd_T (b : ℕ) : PD (d.T b) := by
  have : PS (∑ a ∈ Finset.range b, (d.V a)ᵀ * d.V a) := by
    induction b with
    | zero => simpa using ps_zero
    | succ b ih =>
      rw [Finset.sum_range_succ]
      refine ih.add ?_
      have := ps_mul_transpose (d.V b)ᵀ
      rwa [Matrix.transpose_transpose] at this
  have h := this.add_smul one_pos
  rwa [one_smul] at h

theorem isChol_T (b : ℕ) : IsChol (d.T b) (chol (d.T b)) := isChol_chol (d.pd_T b)

theorem W_eq (b : ℕ) : d.W b = ((chol (d.T b))⁻¹)ᵀ * ((chol (d.T b))⁻¹ * (d.V b)ᵀ) := by
  unfold W; rw [(d.isChol_T b).inv_eq, Matrix.mul_assoc]

theorem isChol_S (b : ℕ) : IsChol (d.S b) (d.D b) := by
  refine isChol_chol ?_
  have h := (ps_mul_transpose (d.V b * ((chol (d.T b))⁻¹)ᵀ)).add_smul one_pos
  rw [one_smul] at h
  have e : d.S b = (d.V b * ((chol (d.T b))⁻¹)ᵀ) * (d.V b * ((chol (d.T b))⁻¹)ᵀ)ᵀ + 1 := by
    unfold S
    rw [d.W_eq, Matrix.transpose_mul, Matrix.transpose_transpose, add_comm]
    simp only [Matrix.mul_assoc]
  rw [e]; exact h

theorem isUnit_K (b : ℕ) : IsUnit (d.K b).det := isUnit_det_of_lower (d.K_lower b) (d.K_pos b)

theorem T_symm (b : ℕ) : ((d.T b)⁻¹)ᵀ = (d.T b)⁻¹ := by
  rw [Matrix.transpose_nonsing_inv]
  congr 1
  ext i j
  exact (d.pd_T b).symm j i

/-- The blocks' contributions to the carry leave the inverse of `T`. -/
theorem carry (b : ℕ) : (1 : M n) - ∑ a ∈ Finset.range b, d.B a * (d.B a)ᵀ = (d.T b)⁻¹ := by
  induction b with
  | zero => simp [T]
  | succ b ih =>
    rw [Finset.sum_range_succ, ← sub_sub, ih]
    symm
    apply Matrix.inv_eq_right_inv
    have hT : d.T (b + 1) = d.T b + (d.V b)ᵀ * d.V b := by
      unfold T; rw [Finset.sum_range_succ]; abel
    have hu := (d.isChol_T b).isUnit_self
    have hB : d.B b * (d.B b)ᵀ = (d.T b)⁻¹ * (d.V b)ᵀ * (d.S b)⁻¹ * d.V b * (d.T b)⁻¹ := by
      unfold B
      rw [(d.isChol_S b).inv_eq, Matrix.transpose_mul, Matrix.transpose_transpose]
      unfold W
      rw [Matrix.transpose_mul, Matrix.transpose_transpose, T_symm]
      simp only [Matrix.mul_assoc]
    rw [hT, hB]
    refine woodbury _ _ _ _ _ (Matrix.mul_nonsing_inv _ hu) ?_
    have : (1 : M n) + d.V b * (d.T b)⁻¹ * (d.V b)ᵀ = d.S b := by
      unfold S W; rw [Matrix.mul_assoc]
    rw [this]
    exact Matrix.mul_nonsing_inv _ (d.isChol_S b).isUnit_self

theorem RR : d.R * d.Rᵀ = 1 - d.Lᵀ * d.A⁻¹ * d.L := by
  rw [push_through d.L d.A d.H d.ε rfl rfl d.isChol_A.isUnit_self d.isChol_H.isUnit_self, d.isChol_H.inv_eq, sub_sub_cancel]
  unfold R
  rw [Matrix.transpose_smul, Matrix.transpose_transpose, Matrix.smul_mul, Matrix.mul_smul, smul_smul, Real.mul_self_sqrt d.hε.le]

/-- A block times the root is the diagonal factor times the whitened block. -/
theorem YR (b : ℕ) : d.Y b * d.R = d.K b * d.V b := by
  unfold V; rw [← Matrix.mul_assoc, Matrix.mul_nonsing_inv _ (d.isUnit_K b), Matrix.one_mul]

theorem zz : d.Gz * d.Gzᵀ = d.A := d.isChol_A.eq.symm

theorem bz (b : ℕ) : d.Gbz b * d.Gzᵀ = d.Y b * d.Lᵀ := by
  unfold Gbz
  rw [Matrix.mul_assoc, ← Matrix.transpose_mul, Matrix.mul_nonsing_inv _ d.isChol_A.isUnit, Matrix.transpose_one, Matrix.mul_one]

/-- The leading columns' part of the product of two block rows. -/
theorem bz_cz (b c : ℕ) : d.Gbz b * (d.Gbz c)ᵀ = d.Y b * (d.Y c)ᵀ - d.K b * d.V b * (d.K c * d.V c)ᵀ := by
  rw [← d.YR b, ← d.YR c, Matrix.transpose_mul]
  have h : d.Y b * d.R * (d.Rᵀ * (d.Y c)ᵀ) = d.Y b * (d.R * d.Rᵀ) * (d.Y c)ᵀ := by simp only [Matrix.mul_assoc]
  rw [h, d.RR, d.isChol_A.inv_eq]
  unfold Gbz
  simp only [Matrix.transpose_mul, Matrix.transpose_transpose]
  noncomm_ring

/-- The middle columns' part of the product of two block rows. -/
theorem ba_ca (b c e : ℕ) :
    ∑ a ∈ Finset.range e, d.Gba b a * (d.Gba c a)ᵀ = d.K b * d.V b * (1 - (d.T e)⁻¹) * (d.K c * d.V c)ᵀ := by
  rw [← d.carry e, sub_sub_cancel, Matrix.mul_sum, Matrix.sum_mul]
  refine Finset.sum_congr rfl fun a _ => ?_
  unfold Gba
  simp only [Matrix.transpose_mul, Matrix.mul_assoc]

theorem B_D (c : ℕ) : d.B c * (d.D c)ᵀ = d.W c := by
  unfold B
  rw [Matrix.mul_assoc, ← Matrix.transpose_mul, Matrix.mul_nonsing_inv _ (d.isChol_S c).isUnit, Matrix.transpose_one, Matrix.mul_one]

/-- Two different block rows. -/
theorem bc (b c : ℕ) : d.Gbz b * (d.Gbz c)ᵀ + ∑ a ∈ Finset.range c, d.Gba b a * (d.Gba c a)ᵀ + d.Gba b c * (d.Gbb c)ᵀ
    = d.Y b * (d.Y c)ᵀ := by
  have h : d.Gba b c * (d.Gbb c)ᵀ = d.K b * d.V b * (d.T c)⁻¹ * (d.K c * d.V c)ᵀ := by
    unfold Gba Gbb
    rw [Matrix.transpose_mul, Matrix.mul_assoc, ← Matrix.mul_assoc (d.B c), d.B_D]
    unfold W
    simp only [Matrix.transpose_mul, Matrix.mul_assoc]
  rw [d.bz_cz, d.ba_ca, h]
  noncomm_ring

/-- A block row with itself. -/
theorem bb (b : ℕ) : d.Gbz b * (d.Gbz b)ᵀ + ∑ a ∈ Finset.range b, d.Gba b a * (d.Gba b a)ᵀ + d.Gbb b * (d.Gbb b)ᵀ
    = d.Y b * (d.Y b)ᵀ + d.K b * (d.K b)ᵀ := by
  have h : d.Gbb b * (d.Gbb b)ᵀ = d.K b * (d.K b)ᵀ + d.K b * d.V b * (d.T b)⁻¹ * (d.K b * d.V b)ᵀ := by
    unfold Gbb
    have : d.K b * d.D b * (d.K b * d.D b)ᵀ = d.K b * (d.D b * (d.D b)ᵀ) * (d.K b)ᵀ := by
      simp only [Matrix.transpose_mul, Matrix.mul_assoc]
    rw [this, ← (d.isChol_S b).eq]
    unfold S W
    simp only [Matrix.transpose_mul]
    noncomm_ring
  rw [d.bz_cz, d.ba_ca, h]
  noncomm_ring

end Data

end Cert.Arrow

end
-- ==== Proof.Arrow.Input.lean ====
/- The inputs of the factorisation as real matrices, and its data: the blocks of side 16 joined four by four into blocks of side 64. -/
module

public import proofs.«01_k».proof.Proof.Arrow.Block

@[expose] public section

noncomputable section

namespace Cert.Arrow

open Matrix

/-- The jitter on the diagonal. -/
def eps : ℝ := 13743895 / 137438953472

theorem eps_pos : 0 < eps := by unfold eps; norm_num

/-- Four blocks of side 16 down the diagonal of a block of side 64. -/
def bd (C : ℕ → Matrix (Fin 16) (Fin 16) ℝ) (b : ℕ) : Matrix (Fin 64) (Fin 64) ℝ := fun r s =>
  if r.val / 16 = s.val / 16 then C (4 * b + r.val / 16) ⟨r.val % 16, Nat.mod_lt _ (by omega)⟩ ⟨s.val % 16, Nat.mod_lt _ (by omega)⟩ else 0

/-- A sum over a block of side 64 of terms in one block of side 16. -/
theorem sum_block (q : ℕ) (hq : q < 4) (f : Fin 64 → ℝ) :
    (∑ s : Fin 64, if q = s.val / 16 then f s else 0) = ∑ t : Fin 16, f ⟨q * 16 + t.val, by omega⟩ := by
  rw [← Finset.sum_filter]
  symm
  refine Finset.sum_bij' (fun t _ => ⟨q * 16 + t.val, by omega⟩) (fun s _ => ⟨s.val % 16, Nat.mod_lt _ (by omega)⟩) ?_ ?_ ?_ ?_ ?_
  · intro t _; simp only [Finset.mem_filter, Finset.mem_univ, true_and]; omega
  · intro s _; exact Finset.mem_univ _
  · intro t _; apply Fin.ext; show (q * 16 + t.val) % 16 = t.val; omega
  · intro s hs
    simp only [Finset.mem_filter, Finset.mem_univ, true_and] at hs
    apply Fin.ext; show q * 16 + s.val % 16 = s.val; omega
  · intro t _; rfl

/-- A row of a joined block times a column. -/
theorem bd_row (C : ℕ → Matrix (Fin 16) (Fin 16) ℝ) (b : ℕ) (r : Fin 64) (f : Fin 64 → ℝ) :
    ∑ s, bd C b r s * f s = ∑ t : Fin 16, C (4 * b + r.val / 16) ⟨r.val % 16, Nat.mod_lt _ (by omega)⟩ t * f ⟨r.val / 16 * 16 + t.val, by omega⟩ := by
  have : ∀ s : Fin 64, bd C b r s * f s = if r.val / 16 = s.val / 16 then C (4 * b + r.val / 16) ⟨r.val % 16, Nat.mod_lt _ (by omega)⟩ ⟨s.val % 16, Nat.mod_lt _ (by omega)⟩ * f s else 0 := by
    intro s; unfold bd; split_ifs <;> simp
  rw [Finset.sum_congr rfl fun s _ => this s, sum_block (r.val / 16) (by omega)]
  refine Finset.sum_congr rfl fun t _ => ?_
  congr 2
  apply Fin.ext; show (r.val / 16 * 16 + t.val) % 16 = t.val; omega

theorem bd_mul (C D : ℕ → Matrix (Fin 16) (Fin 16) ℝ) (b : ℕ) : bd C b * bd D b = bd (fun n => C n * D n) b := by
  ext r s
  rw [Matrix.mul_apply, bd_row]
  unfold bd
  have hr : ∀ t : Fin 16, (r.val / 16 * 16 + t.val) / 16 = r.val / 16 := fun t => by omega
  have hm : ∀ t : Fin 16, (r.val / 16 * 16 + t.val) % 16 = t.val := fun t => by omega
  simp only [hr, hm]
  split_ifs with h
  · rw [Matrix.mul_apply]
  · simp

theorem bd_one (b : ℕ) : bd (fun _ => 1) b = 1 := by
  ext r s
  unfold bd
  simp only [Matrix.one_apply]
  by_cases h : r = s
  · subst h; simp
  · rw [if_neg h]
    split_ifs with h1 h2
    · exfalso; apply h; apply Fin.ext
      have := congrArg Fin.val h2
      simp only at this
      omega
    · rfl
    · rfl

theorem bd_inv (C : ℕ → Matrix (Fin 16) (Fin 16) ℝ) (h : ∀ n, IsUnit (C n).det) (b : ℕ) : (bd C b)⁻¹ = bd (fun n => (C n)⁻¹) b := by
  apply Matrix.inv_eq_right_inv
  rw [bd_mul]
  have : (fun n => C n * (C n)⁻¹) = fun _ => (1 : Matrix (Fin 16) (Fin 16) ℝ) := by
    funext n; exact Matrix.mul_nonsing_inv _ (h n)
  rw [this, bd_one]

/-- The inputs: the leading block's triangle, the diagonal blocks' triangles and the rows under the leading block. -/
structure Inp where
  Lz : Matrix (Fin 64) (Fin 64) ℝ
  Ly : ℕ → Matrix (Fin 16) (Fin 16) ℝ
  U : ℕ → Fin 64 → ℝ

namespace Inp

variable (p : Inp)

/-- A diagonal block's covariance. -/
def Ay (n : ℕ) : Matrix (Fin 16) (Fin 16) ℝ := p.Ly n * (p.Ly n)ᵀ + eps • (1 : Matrix (Fin 16) (Fin 16) ℝ)

/-- Its factor. -/
def C (n : ℕ) : Matrix (Fin 16) (Fin 16) ℝ := chol (p.Ay n)

theorem isChol_C (n : ℕ) : IsChol (p.Ay n) (p.C n) := isChol_chol ((ps_mul_transpose (p.Ly n)).add_smul eps_pos)

/-- The data of the block factorisation. -/
def data : Data 64 where
  ε := eps
  hε := eps_pos
  L := p.Lz
  Y b := fun r k => p.U (64 * b + r.val) k
  K := bd p.C
  K_lower b i j h := by
    have hv : i.val < j.val := h
    unfold bd
    split_ifs with h1
    · exact (p.isChol_C _).lower _ _ (show i.val % 16 < j.val % 16 by omega)
    · rfl
  K_pos b i := by
    unfold bd
    rw [if_pos rfl]
    exact (p.isChol_C _).pos _

end Inp

end Cert.Arrow

end
-- ==== Proof.Arrow.Factor.lean ====
/- The arrow covariance and its factor as matrices of 129 by 129 blocks of side 64. -/
module

public import proofs.«01_k».proof.Proof.Arrow.Input

@[expose] public section

noncomputable section

namespace Cert.Arrow

open Matrix

local notation "B64" => Matrix (Fin 64) (Fin 64) ℝ

/-- The position in its block. -/
def inBlk (l : Fin 8256) : Fin 64 := ⟨l.val % 64, Nat.mod_lt _ (by omega)⟩

/-- An index by its block and its position in it. -/
def ofBlk (A : ℕ) (s : Fin 64) (h : A < 129) : Fin 8256 := ⟨64 * A + s.val, by omega⟩

/-- A matrix by its blocks. -/
def big (F : ℕ → ℕ → B64) : Matrix (Fin 8256) (Fin 8256) ℝ := fun i j => F (i.val / 64) (j.val / 64) (inBlk i) (inBlk j)

/-- A sum over all columns, block by block. -/
theorem sum_big (f : ℕ → Fin 64 → ℝ) : (∑ l : Fin 8256, f (l.val / 64) (inBlk l)) = ∑ A ∈ Finset.range 129, ∑ s, f A s := by
  rw [← Fin.sum_univ_eq_sum_range (fun A => ∑ s, f A s) 129, ← Finset.sum_product']
  refine Finset.sum_bij' (fun l _ => (⟨l.val / 64, by omega⟩, inBlk l)) (fun q _ => ofBlk q.1.val q.2 q.1.isLt) ?_ ?_ ?_ ?_ ?_
  · intro l _; simp
  · intro q _; exact Finset.mem_univ _
  · intro l _; apply Fin.ext; show 64 * (l.val / 64) + l.val % 64 = l.val; omega
  · intro q _
    refine Prod.ext (Fin.ext ?_) (Fin.ext ?_)
    · show (64 * q.1.val + q.2.val) / 64 = q.1.val; omega
    · show (64 * q.1.val + q.2.val) % 64 = q.2.val; omega
  · intro l _; rfl

/-- The product of two matrices by their blocks, the second one transposed. -/
theorem big_mul (F H : ℕ → ℕ → B64) : big F * (big H)ᵀ = big fun B C => ∑ A ∈ Finset.range 129, F B A * (H C A)ᵀ := by
  ext i j
  rw [Matrix.mul_apply]
  refine (sum_big fun A s => F (i.val / 64) A (inBlk i) s * H (j.val / 64) A (inBlk j) s).trans ?_
  show _ = (∑ A ∈ Finset.range 129, F (i.val / 64) A * (H (j.val / 64) A)ᵀ) (inBlk i) (inBlk j)
  rw [Matrix.sum_apply]
  refine Finset.sum_congr rfl fun A _ => ?_
  rw [Matrix.mul_apply]
  rfl

/-- Blocks left of the diagonal, one on it and none right of it. -/
theorem sum_left {α : Type} [AddCommMonoid α] (n b : ℕ) (hb : b < n) (f : ℕ → α) (g : α) :
    (∑ a ∈ Finset.range n, if a < b then f a else if a = b then g else 0) = (∑ a ∈ Finset.range b, f a) + g := by
  rw [← Finset.sum_subset (Finset.range_mono (show b + 1 ≤ n by omega))]
  · rw [Finset.sum_range_succ, if_neg (lt_irrefl b), if_pos rfl]
    congr 1
    exact Finset.sum_congr rfl fun a ha => if_pos (Finset.mem_range.mp ha)
  · intro a _ ha
    have : ¬ a < b + 1 := fun h => ha (Finset.mem_range.mpr h)
    rw [if_neg (by omega), if_neg (by omega)]

namespace Inp

variable (p : Inp)

/-- The factor's blocks. -/
def facB : ℕ → ℕ → B64
  | 0, 0 => p.data.Gz
  | 0, _ + 1 => 0
  | b + 1, 0 => p.data.Gbz b
  | b + 1, a + 1 => if a < b then p.data.Gba b a else if a = b then p.data.Gbb b else 0

/-- The covariance's blocks. -/
def covB : ℕ → ℕ → B64
  | 0, 0 => p.data.A
  | 0, c + 1 => p.Lz * (p.data.Y c)ᵀ
  | b + 1, 0 => p.data.Y b * p.Lzᵀ
  | b + 1, c + 1 => p.data.Y b * (p.data.Y c)ᵀ + if b = c then p.data.K b * (p.data.K b)ᵀ else 0

/-- The arrow matrix's blocks. -/
def arrowB : ℕ → ℕ → B64
  | 0, 0 => p.Lz
  | 0, _ + 1 => 0
  | b + 1, 0 => p.data.Y b
  | b + 1, a + 1 => if b = a then bd p.Ly b else 0

/-- The factor, the covariance and the arrow matrix. -/
def fac : Matrix (Fin 8256) (Fin 8256) ℝ := big p.facB
def cov : Matrix (Fin 8256) (Fin 8256) ℝ := big p.covB
def arrow : Matrix (Fin 8256) (Fin 8256) ℝ := big p.arrowB

/-- The product of two block rows, the first no lower than the second. -/
theorem fac_row (B C : ℕ) (hB : B < 129) (h : C ≤ B) : ∑ A ∈ Finset.range 129, p.facB B A * (p.facB C A)ᵀ = p.covB B C := by
  rw [Finset.sum_range_succ' _ 128]
  cases C with
  | zero =>
    have : ∀ a ∈ Finset.range 128, p.facB B (a + 1) * (p.facB 0 (a + 1))ᵀ = 0 := fun a _ => by
      show _ * (0 : B64)ᵀ = 0
      rw [Matrix.transpose_zero, Matrix.mul_zero]
    rw [Finset.sum_eq_zero this, zero_add]
    cases B with
    | zero => exact p.data.zz
    | succ b => exact p.data.bz b
  | succ c =>
    cases B with
    | zero => omega
    | succ b =>
      have e : ∀ a ∈ Finset.range 128, p.facB (b + 1) (a + 1) * (p.facB (c + 1) (a + 1))ᵀ
          = if a < c then p.data.Gba b a * (p.data.Gba c a)ᵀ else if a = c then (if c < b then p.data.Gba b c else p.data.Gbb b) * (p.data.Gbb c)ᵀ else 0 := by
        intro a _
        show (if a < b then p.data.Gba b a else if a = b then p.data.Gbb b else 0) * (if a < c then p.data.Gba c a else if a = c then p.data.Gbb c else 0)ᵀ = _
        by_cases h1 : a < c
        · rw [if_pos h1, if_pos h1, if_pos (by omega)]
        · rw [if_neg h1, if_neg h1]
          by_cases h2 : a = c
          · subst h2
            rw [if_pos rfl, if_pos rfl]
            by_cases h3 : a < b
            · rw [if_pos h3, if_pos h3]
            · rw [if_neg h3, if_neg h3, if_pos (by omega)]
          · rw [if_neg h2, if_neg h2, Matrix.transpose_zero, Matrix.mul_zero]
      rw [Finset.sum_congr rfl e, sum_left 128 c (by omega)]
      show _ + p.data.Gbz b * (p.data.Gbz c)ᵀ = p.data.Y b * (p.data.Y c)ᵀ + if b = c then p.data.K b * (p.data.K b)ᵀ else 0
      by_cases h3 : c < b
      · rw [if_pos h3, if_neg (by omega), add_zero, ← p.data.bc b c]
        abel
      · have : b = c := by omega
        subst this
        rw [if_neg h3, if_pos rfl, ← p.data.bb b]
        abel

theorem covB_symm (B C : ℕ) : (p.covB B C)ᵀ = p.covB C B := by
  cases B with
  | zero =>
    cases C with
    | zero =>
      show (p.data.A)ᵀ = p.data.A
      rw [← p.data.zz, Matrix.transpose_mul, Matrix.transpose_transpose]
    | succ c =>
      show (p.Lz * (p.data.Y c)ᵀ)ᵀ = p.data.Y c * p.Lzᵀ
      rw [Matrix.transpose_mul, Matrix.transpose_transpose]
  | succ b =>
    cases C with
    | zero =>
      show (p.data.Y b * p.Lzᵀ)ᵀ = p.Lz * (p.data.Y b)ᵀ
      rw [Matrix.transpose_mul, Matrix.transpose_transpose]
    | succ c =>
      show (p.data.Y b * (p.data.Y c)ᵀ + if b = c then p.data.K b * (p.data.K b)ᵀ else 0)ᵀ
        = p.data.Y c * (p.data.Y b)ᵀ + if c = b then p.data.K c * (p.data.K c)ᵀ else 0
      by_cases h : b = c
      · subst h
        rw [if_pos rfl, Matrix.transpose_add, Matrix.transpose_mul, Matrix.transpose_mul, Matrix.transpose_transpose, Matrix.transpose_transpose]
      · rw [if_neg h, if_neg fun e => h e.symm, add_zero, add_zero, Matrix.transpose_mul, Matrix.transpose_transpose]

theorem fac_mul : p.fac * p.facᵀ = p.cov := by
  unfold fac cov
  rw [big_mul]
  ext i j
  show (∑ A ∈ Finset.range 129, p.facB (i.val / 64) A * (p.facB (j.val / 64) A)ᵀ) (inBlk i) (inBlk j) = p.covB (i.val / 64) (j.val / 64) (inBlk i) (inBlk j)
  by_cases h : j.val / 64 ≤ i.val / 64
  · rw [p.fac_row _ _ (by omega) h]
  · have e := p.fac_row (j.val / 64) (i.val / 64) (by omega) (by omega)
    have e2 := congrArg Matrix.transpose e
    rw [Matrix.transpose_sum, p.covB_symm] at e2
    simp only [Matrix.transpose_mul, Matrix.transpose_transpose] at e2
    rw [e2]

/-- The factor is the covariance's Cholesky factor. -/
theorem isChol_fac : IsChol p.cov p.fac where
  eq := p.fac_mul.symm
  lower i j h := by
    have hv : i.val < j.val := h
    show p.facB (i.val / 64) (j.val / 64) (inBlk i) (inBlk j) = 0
    have hin : i.val / 64 = j.val / 64 → inBlk i < inBlk j := fun e => by
      show i.val % 64 < j.val % 64
      omega
    have hle : i.val / 64 ≤ j.val / 64 := Nat.div_le_div_right hv.le
    generalize i.val / 64 = B at *
    generalize j.val / 64 = C at *
    cases B with
    | zero =>
      cases C with
      | zero => exact p.data.isChol_A.lower _ _ (hin rfl)
      | succ c => rfl
    | succ b =>
      cases C with
      | zero => omega
      | succ c =>
        show (if c < b then p.data.Gba b c else if c = b then p.data.Gbb b else 0) _ _ = 0
        rw [if_neg (by omega)]
        by_cases e : c = b
        · subst e
          rw [if_pos rfl]
          have hl := hin rfl
          show (p.data.K c * p.data.D c) _ _ = 0
          rw [Matrix.mul_apply]
          refine Finset.sum_eq_zero fun x _ => ?_
          by_cases hx : inBlk i < x
          · rw [p.data.K_lower _ _ _ hx, zero_mul]
          · rw [(p.data.isChol_S c).lower _ _ (lt_of_le_of_lt (not_lt.mp hx) hl), mul_zero]
        · rw [if_neg e]; rfl
  pos i := by
    show 0 < p.facB (i.val / 64) (i.val / 64) (inBlk i) (inBlk i)
    generalize i.val / 64 = B
    cases B with
    | zero => exact p.data.isChol_A.pos _
    | succ b =>
      show 0 < (if b < b then p.data.Gba b b else if b = b then p.data.Gbb b else 0) _ _
      rw [if_neg (lt_irrefl b), if_pos rfl]
      show 0 < (p.data.K b * p.data.D b) _ _
      rw [Matrix.mul_apply, Finset.sum_eq_single (inBlk i)]
      · exact mul_pos (p.data.K_pos b _) ((p.data.isChol_S b).pos _)
      · intro x _ hx
        by_cases h : inBlk i < x
        · rw [p.data.K_lower _ _ _ h, zero_mul]
        · rw [(p.data.isChol_S b).lower _ _ (lt_of_le_of_ne (not_lt.mp h) hx), mul_zero]
      · intro h; exact absurd (Finset.mem_univ _) h

/-- A joined diagonal block's Gram matrix with the jitter. -/
theorem bd_cov (b : ℕ) : bd p.Ly b * (bd p.Ly b)ᵀ + eps • (1 : B64) = p.data.K b * (p.data.K b)ᵀ := by
  have ht : ∀ C : ℕ → Matrix (Fin 16) (Fin 16) ℝ, (bd C b)ᵀ = bd (fun n => (C n)ᵀ) b := by
    intro C
    ext r s
    show bd C b s r = bd (fun n => (C n)ᵀ) b r s
    unfold bd
    by_cases h : r.val / 16 = s.val / 16
    · rw [if_pos h, if_pos h.symm, h]; rfl
    · rw [if_neg h, if_neg fun e => h e.symm]
  show _ = bd p.C b * (bd p.C b)ᵀ
  rw [ht, ht, bd_mul, bd_mul]
  have hc : (fun n => p.C n * (p.C n)ᵀ) = fun n => p.Ly n * (p.Ly n)ᵀ + eps • (1 : Matrix (Fin 16) (Fin 16) ℝ) := by
    funext n; exact (p.isChol_C n).eq.symm
  rw [hc, ← bd_one b]
  ext r s
  rw [Matrix.add_apply, Matrix.smul_apply]
  unfold bd
  by_cases h : r.val / 16 = s.val / 16
  · rw [if_pos h, if_pos h, if_pos h]
    rfl
  · rw [if_neg h, if_neg h, if_neg h, smul_zero, add_zero]

/-- The covariance is the arrow matrix's Gram matrix with the jitter. -/
theorem cov_eq : p.cov = p.arrow * p.arrowᵀ + eps • (1 : Matrix (Fin 8256) (Fin 8256) ℝ) := by
  have e1 : (1 : Matrix (Fin 8256) (Fin 8256) ℝ) = big fun B C => if B = C then 1 else 0 := by
    ext i j
    show _ = (if i.val / 64 = j.val / 64 then (1 : B64) else 0) (inBlk i) (inBlk j)
    rw [Matrix.one_apply]
    by_cases h : i = j
    · subst h; rw [if_pos rfl, if_pos rfl, Matrix.one_apply_eq]
    · rw [if_neg h]
      by_cases h1 : i.val / 64 = j.val / 64
      · rw [if_pos h1, Matrix.one_apply_ne]
        intro e
        have e' : i.val % 64 = j.val % 64 := congrArg Fin.val e
        exact h (Fin.ext (by omega))
      · rw [if_neg h1]; rfl
  rw [e1]
  unfold arrow
  rw [big_mul]
  ext i j
  rw [Matrix.add_apply, Matrix.smul_apply]
  unfold cov big
  have hi : i.val / 64 < 129 := by omega
  have hj : j.val / 64 < 129 := by omega
  generalize i.val / 64 = B at *
  generalize j.val / 64 = C at *
  rw [← Matrix.smul_apply, ← Matrix.add_apply]
  congr 2
  rw [Finset.sum_range_succ' _ 128]
  cases B with
  | zero =>
    have : ∀ a ∈ Finset.range 128, p.arrowB 0 (a + 1) * (p.arrowB C (a + 1))ᵀ = 0 := fun a _ => by
      show (0 : B64) * _ = 0
      rw [Matrix.zero_mul]
    rw [Finset.sum_eq_zero this, zero_add]
    cases C with
    | zero =>
      rw [if_pos rfl]
      rfl
    | succ c =>
      rw [if_neg (by omega), smul_zero, add_zero]
      rfl
  | succ b =>
    cases C with
    | zero =>
      have : ∀ a ∈ Finset.range 128, p.arrowB (b + 1) (a + 1) * (p.arrowB 0 (a + 1))ᵀ = 0 := fun a _ => by
        show _ * (0 : B64)ᵀ = 0
        rw [Matrix.transpose_zero, Matrix.mul_zero]
      rw [Finset.sum_eq_zero this, zero_add, if_neg (by omega), smul_zero, add_zero]
      rfl
    | succ c =>
      have : ∀ a ∈ Finset.range 128, p.arrowB (b + 1) (a + 1) * (p.arrowB (c + 1) (a + 1))ᵀ
          = if b = a then (if b = c then bd p.Ly b * (bd p.Ly b)ᵀ else 0) else 0 := fun a _ => by
        show (if b = a then bd p.Ly b else 0) * (if c = a then bd p.Ly c else 0)ᵀ = _
        by_cases h1 : b = a
        · subst h1
          rw [if_pos rfl, if_pos rfl]
          by_cases h2 : b = c
          · subst h2; rw [if_pos rfl, if_pos rfl]
          · rw [if_neg h2, if_neg fun e => h2 e.symm, Matrix.transpose_zero, Matrix.mul_zero]
        · rw [if_neg h1, if_neg h1, Matrix.zero_mul]
      rw [Finset.sum_congr rfl this, Finset.sum_ite_eq, if_pos (Finset.mem_range.mpr (by omega))]
      have h0 : p.covB (b + 1) (c + 1) = p.data.Y b * (p.data.Y c)ᵀ + (if b = c then p.data.K b * (p.data.K b)ᵀ else 0) := rfl
      have h1 : p.arrowB (b + 1) 0 * (p.arrowB (c + 1) 0)ᵀ = p.data.Y b * (p.data.Y c)ᵀ := rfl
      rw [h0, h1]
      refine congrArg (fun X : B64 => X (inBlk i) (inBlk j)) ?_
      by_cases h : b = c
      · subst h
        rw [if_pos rfl, if_pos rfl, if_pos rfl, ← p.bd_cov b]
        abel
      · rw [if_neg h, if_neg h, if_neg (by omega), smul_zero]
        abel

variable (E : Matrix (Fin 128) (Fin 8256) ℝ)

/-- The noise's leading columns and its other blocks, half of the rows at a time. -/
def zz (I : ℕ) : B64 := fun r s => if h : 64 * I + r.val < 128 then E ⟨64 * I + r.val, h⟩ ⟨s.val, by omega⟩ else 0
def xx (I a : ℕ) : B64 := fun r s =>
  if h : 64 * I + r.val < 128 ∧ 64 * (a + 1) + s.val < 8256 then E ⟨64 * I + r.val, h.1⟩ ⟨64 * (a + 1) + s.val, h.2⟩ else 0

/-- The noise's blocks. -/
def noiseB (I : ℕ) : ℕ → B64
  | 0 => zz E I
  | a + 1 => xx E I a

theorem noiseB_eq (i : Fin 128) (l : Fin 8256) : E i l = noiseB E (i.val / 64) (l.val / 64) ⟨i.val % 64, Nat.mod_lt _ (by omega)⟩ (inBlk l) := by
  have hi : 64 * (i.val / 64) + i.val % 64 = i.val := Nat.div_add_mod _ _
  have hl : 64 * (l.val / 64) + l.val % 64 = l.val := Nat.div_add_mod _ _
  cases h : l.val / 64 with
  | zero =>
    show _ = zz E _ _ _
    have hd : 64 * (i.val / 64) + i.val % 64 < 128 := by omega
    refine Eq.trans ?_ (dif_pos hd).symm
    exact congrArg₂ E (Fin.ext hi.symm) (Fin.ext (show l.val = l.val % 64 by omega))
  | succ a =>
    show _ = xx E _ _ _ _
    rw [h] at hl
    have hd : 64 * (i.val / 64) + i.val % 64 < 128 ∧ 64 * (a + 1) + l.val % 64 < 8256 := by omega
    refine Eq.trans ?_ (dif_pos hd).symm
    exact congrArg₂ E (Fin.ext hi.symm) (Fin.ext hl.symm)

/-- A row of the noise against a row of the factor. -/
theorem out_row (i : Fin 128) (l : Fin 8256) : (E * p.facᵀ) i l
    = (∑ A ∈ Finset.range 129, noiseB E (i.val / 64) A * (p.facB (l.val / 64) A)ᵀ) ⟨i.val % 64, Nat.mod_lt _ (by omega)⟩ (inBlk l) := by
  rw [Matrix.mul_apply, Matrix.sum_apply]
  have : ∀ x : Fin 8256, E i x * p.facᵀ x l
      = noiseB E (i.val / 64) (x.val / 64) ⟨i.val % 64, Nat.mod_lt _ (by omega)⟩ (inBlk x) * p.facB (l.val / 64) (x.val / 64) (inBlk l) (inBlk x) :=
    fun x => congrArg (· * p.facᵀ x l) (noiseB_eq E i x)
  rw [Finset.sum_congr rfl fun x _ => this x]
  refine (sum_big fun A s => noiseB E (i.val / 64) A ⟨i.val % 64, Nat.mod_lt _ (by omega)⟩ s * p.facB (l.val / 64) A (inBlk l) s).trans ?_
  refine Finset.sum_congr rfl fun A _ => ?_
  rw [Matrix.mul_apply]
  rfl

theorem out_lead (I : ℕ) : ∑ A ∈ Finset.range 129, noiseB E I A * (p.facB 0 A)ᵀ = zz E I * p.data.Gzᵀ := by
  rw [Finset.sum_range_succ' _ 128, Finset.sum_eq_zero fun a _ => ?_, zero_add]
  · rfl
  · show _ * (0 : B64)ᵀ = 0
    rw [Matrix.transpose_zero, Matrix.mul_zero]

theorem out_block (I b : ℕ) (hb : b < 128) : ∑ A ∈ Finset.range 129, noiseB E I A * (p.facB (b + 1) A)ᵀ
    = xx E I b * (p.data.Gbb b)ᵀ + ((∑ a ∈ Finset.range b, xx E I a * (p.data.B a)ᵀ) * (p.data.K b * p.data.V b)ᵀ
      + zz E I * (p.data.Gz⁻¹ * p.Lz) * (p.data.Y b)ᵀ) := by
  rw [Finset.sum_range_succ' _ 128]
  have e : ∀ a ∈ Finset.range 128, noiseB E I (a + 1) * (p.facB (b + 1) (a + 1))ᵀ
      = if a < b then xx E I a * (p.data.B a)ᵀ * (p.data.K b * p.data.V b)ᵀ else if a = b then xx E I b * (p.data.Gbb b)ᵀ else 0 := by
    intro a _
    show xx E I a * (if a < b then p.data.Gba b a else if a = b then p.data.Gbb b else 0)ᵀ = _
    by_cases h1 : a < b
    · rw [if_pos h1, if_pos h1]
      unfold Data.Gba
      rw [Matrix.transpose_mul, Matrix.mul_assoc]
    · rw [if_neg h1, if_neg h1]
      by_cases h2 : a = b
      · subst h2; rw [if_pos rfl, if_pos rfl]
      · rw [if_neg h2, if_neg h2, Matrix.transpose_zero, Matrix.mul_zero]
  rw [Finset.sum_congr rfl e, sum_left 128 b hb, Matrix.sum_mul]
  have hz : noiseB E I 0 * (p.facB (b + 1) 0)ᵀ = zz E I * (p.data.Gz⁻¹ * p.Lz) * (p.data.Y b)ᵀ := by
    show zz E I * (p.data.Y b * p.Lzᵀ * (p.data.Gz⁻¹)ᵀ)ᵀ = _
    simp only [Matrix.transpose_mul, Matrix.transpose_transpose, Matrix.mul_assoc]
  rw [hz]
  abel

end Inp

end Cert.Arrow

end
-- ==== Proof.Arrow.Lift.lean ====
/- Arrays of reals inside the extended reals, and the words that index them: what the pointwise readings of the kernel's
   operations become when every entry is real. -/
module

public import Idealize.ShloMosaic.Lib.Pointwise
public import Idealize.ShloMosaic.Lib.Exec
public import Idealize.ShloMosaic.Lib.WordCmp
public import Idealize.ShloMosaic.Lib.WordArith.Masks
public import Mathlib.Data.EReal.Operations
public import Mathlib.Tactic.Ring
public import Mathlib.Tactic.IntervalCases

@[expose] public section

noncomputable section

namespace Cert.Arrow

open Idealize.ShloMosaic Matrix

/-- A stack of real matrices as an array. -/
def up3 {B n m : ℕ} (M : Fin B → Matrix (Fin n) (Fin m) ℝ) : (⟨3, ![B, n, m]⟩ : Shape).Idx → EReal :=
  fun i => ((M (i 0) (i 1) (i 2) : ℝ) : EReal)

/-- A real matrix as an array. -/
def up2 {n m : ℕ} (M : Matrix (Fin n) (Fin m) ℝ) : (⟨2, ![n, m]⟩ : Shape).Idx → EReal :=
  fun i => ((M (i 0) (i 1) : ℝ) : EReal)

theorem up3_ix {B n m : ℕ} (M : Fin B → Matrix (Fin n) (Fin m) ℝ) (b : Fin B) (i : Fin n) (j : Fin m) :
    up3 M (ix3 b i j) = ((M b i j : ℝ) : EReal) := rfl

theorem up2_ix {n m : ℕ} (M : Matrix (Fin n) (Fin m) ℝ) (i : Fin n) (j : Fin m) :
    up2 M (ix2 i j) = ((M i j : ℝ) : EReal) := rfl

theorem up3_ext {B n m : ℕ} {X : (⟨3, ![B, n, m]⟩ : Shape).Idx → EReal} {M : Fin B → Matrix (Fin n) (Fin m) ℝ}
    (h : ∀ b i j, X (ix3 b i j) = ((M b i j : ℝ) : EReal)) : X = up3 M := by
  funext j
  rw [← ix3_eta j]
  exact h _ _ _

theorem up2_ext {n m : ℕ} {X : (⟨2, ![n, m]⟩ : Shape).Idx → EReal} {M : Matrix (Fin n) (Fin m) ℝ}
    (h : ∀ i j, X (ix2 i j) = ((M i j : ℝ) : EReal)) : X = up2 M := by
  funext j
  rw [← ix2_eta j]
  exact h _ _

/-! ## Sums, choices and quotients of reals -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (a b : ℝ) : (if p then ((a : ℝ) : EReal) else ((b : ℝ) : EReal)) = ((if p then a else b : ℝ) : EReal) := by
  split_ifs <;> rfl

theorem coe_ite_zero (p : Prop) [Decidable p] (a : ℝ) : (if p then ((a : ℝ) : EReal) else 0) = ((if p then a else 0 : ℝ) : EReal) := by
  split_ifs <;> rfl

theorem coe_one_zero (p : Prop) [Decidable p] : (if p then (1 : EReal) else 0) = ((if p then 1 else 0 : ℝ) : EReal) := by
  split_ifs <;> rfl

theorem sum_pick {n : ℕ} (k : ℕ) (hk : k < n) (f : Fin n → EReal) : (∑ x : Fin n, if x.val = k then f x else 0) = f ⟨k, hk⟩ := by
  rw [Finset.sum_eq_single ⟨k, hk⟩]
  · simp
  · intro b _ hb
    rw [if_neg (fun e => hb (Fin.ext e))]
  · simp

theorem sum_diag {n : ℕ} (i : Fin n) (f : Fin n → EReal) : (∑ x : Fin n, if i.val = x.val then f x else 0) = f i := by
  rw [Finset.sum_eq_single i]
  · simp
  · intro b _ hb
    rw [if_neg (fun e => hb (Fin.ext e.symm))]
  · simp

theorem rsqrt_pos {r : ℝ} (h : 0 < r) : Ideal.rsqrt ((r : ℝ) : EReal) = (((√r)⁻¹ : ℝ) : EReal) := by
  rw [Ideal.rsqrt_coe, if_neg (not_lt.mpr h.le), if_neg h.ne']

theorem sqrt_nonneg {r : ℝ} (h : 0 < r) : Ideal.sqrt ((r : ℝ) : EReal) = ((√r : ℝ) : EReal) := by
  rw [Ideal.sqrt_coe, if_neg (not_lt.mpr h.le)]

theorem div_real {a d : ℝ} (h : d ≠ 0) : Ideal.div ((a : ℝ) : EReal) ((d : ℝ) : EReal) = ((a / d : ℝ) : EReal) := by
  unfold Ideal.div
  rw [if_neg (by rw [← EReal.coe_zero, EReal.coe_eq_coe_iff]; exact h), div_eq_mul_inv, EReal.coe_mul, EReal.coe_inv]

/-! ## Index words -/

theorem iv_ofNat (k : ℕ) (hk : k < 2 ^ 32) : Scf.iv 0#32 1#32 k = BitVec.ofNat 32 k := by
  apply BitVec.eq_of_toNat_eq
  rw [WordArith.toNat_iv_zero_one k hk, BitVec.toNat_ofNat, Nat.mod_eq_of_lt hk]

section Words
variable {α : Type} {i j : ℕ}

theorem sel_eq (hi : i < 2 ^ 31) (hj : j < 2 ^ 31) (a b : α) :
    Scalar.select (IntOp.cmpi .eq (BitVec.ofNat 32 i) (BitVec.ofNat 32 j)) a b = if i = j then a else b := by
  rw [WordCmp.cmpi_eq_ofNat (by omega) (by omega), WordCmp.select_decide]

theorem sel_ge (hi : i < 2 ^ 31) (hj : j < 2 ^ 31) (a b : α) :
    Scalar.select (IntOp.cmpi .sge (BitVec.ofNat 32 i) (BitVec.ofNat 32 j)) a b = if j ≤ i then a else b := by
  rw [WordCmp.cmpi_sge_ofNat (by omega) (by omega), WordCmp.select_decide]

theorem sel_and {i' j' : ℕ} (hi : i < 2 ^ 31) (hj : j < 2 ^ 31) (hi' : i' < 2 ^ 31) (hj' : j' < 2 ^ 31) (a b : α) :
    Scalar.select (IntOp.andi (IntOp.cmpi .eq (BitVec.ofNat 32 i) (BitVec.ofNat 32 j))
      (IntOp.cmpi .ne (BitVec.ofNat 32 i') (BitVec.ofNat 32 j'))) a b = if i = j ∧ i' ≠ j' then a else b := by
  rw [WordCmp.cmpi_eq_ofNat (by omega) (by omega), WordCmp.cmpi_ne_ofNat (by omega) (by omega), WordCmp.andi_ofBool, ← Bool.decide_and, WordCmp.select_decide]

end Words

/-- The sign of the divisor, as the floor quotient compares it. -/
theorem sign16 : Scalar.subi (Scalar.extui (Scalar.cmpi .sgt 16#32 0#32)) (Scalar.extui (Scalar.cmpi .slt 16#32 0#32)) = 1#32 := by decide
theorem sign16' : Scalar.subi (Scalar.extui 1#1) (Scalar.extui (Scalar.cmpi .slt 16#32 0#32)) = 1#32 := by decide
theorem sign32 : Scalar.subi (Scalar.extui (Scalar.cmpi .sgt 32#32 0#32)) (Scalar.extui (Scalar.cmpi .slt 32#32 0#32)) = 1#32 := by decide
theorem sign64 : Scalar.subi (Scalar.extui (Scalar.cmpi .sgt 64#32 0#32)) (Scalar.extui (Scalar.cmpi .slt 64#32 0#32)) = 1#32 := by decide
theorem safe16 : Scalar.select (Scalar.cmpi .eq 16#32 0#32) 1#32 16#32 = 16#32 := by decide

/-- The floor quotient of an index word by a divisor word. -/
theorem floor_div {d : BitVec 32} (hd : d = 16#32 ∨ d = 32#32 ∨ d = 64#32) {i : ℕ} (hi : i < 64) :
    Scalar.select
      (IntOp.andi
        (IntOp.cmpi CmpIPredicate.ne
          (IntOp.subi (BitVec.setWidth 32 (IntOp.cmpi CmpIPredicate.sgt (BitVec.ofNat 32 i) 0#32))
            (BitVec.setWidth 32 (IntOp.cmpi CmpIPredicate.slt (BitVec.ofNat 32 i) 0#32)))
          1#32)
        (IntOp.cmpi CmpIPredicate.ne (IntOp.remsi ArithUnit.vector (BitVec.ofNat 32 i) d) 0#32))
      (IntOp.subi (IntOp.divsi ArithUnit.vector (BitVec.ofNat 32 i) d) 1#32)
      (IntOp.divsi ArithUnit.vector (BitVec.ofNat 32 i) d) = BitVec.ofNat 32 (i / d.toNat) := by
  rcases hd with rfl | rfl | rfl <;> interval_cases i <;> rfl

theorem floor_mod {i : ℕ} (hi : i < 64) :
    Scalar.select
      (IntOp.andi
        (IntOp.xori (IntOp.cmpi CmpIPredicate.slt (IntOp.remsi ArithUnit.vector (BitVec.ofNat 32 i) 16#32) 0#32)
          (Scalar.cmpi CmpIPredicate.slt 16#32 0#32))
        (IntOp.cmpi CmpIPredicate.ne (IntOp.remsi ArithUnit.vector (BitVec.ofNat 32 i) 16#32) 0#32))
      (IntOp.addi (IntOp.remsi ArithUnit.vector (BitVec.ofNat 32 i) 16#32) 16#32)
      (IntOp.remsi ArithUnit.vector (BitVec.ofNat 32 i) 16#32) = BitVec.ofNat 32 (i % 16) := by
  interval_cases i <;> rfl

/-! ## Counted loops -/

/-- A counted loop that carries a value keeps what every trip keeps. -/
theorem fold_induct {σ : Type} {n : ℕ} (P : ℕ → σ → Prop) (g : Fin n → σ → σ) (init : σ) (h0 : P 0 init)
    (hs : ∀ (k : Fin n) acc, P k.val acc → P (k.val + 1) (g k acc)) : P n (Scf.fold g init) := by
  rw [Scf.fold_eq]
  have key : ∀ m (hm : m ≤ n), P m (((List.finRange m).map (Fin.castLE hm)).foldl (fun acc k => g k acc) init) := by
    intro m
    induction m with
    | zero => intro _; simpa using h0
    | succ m ih =>
      intro hm
      rw [List.finRange_succ_last, List.map_append, List.foldl_append, List.map_map]
      exact hs ⟨m, hm⟩ _ (ih (by omega))
  have := key n le_rfl
  have e : (List.finRange n).map (Fin.castLE (le_refl n)) = List.finRange n := by
    conv_rhs => rw [← List.map_id (List.finRange n)]
    rfl
  rwa [e] at this

end Cert.Arrow

end
-- ==== Proof.Arrow.At.lean ====
/- Real matrices as arrays, read at an index by its coordinates. -/
module

public import proofs.«01_k».proof.Proof.Arrow.Lift

@[expose] public section

noncomputable section

namespace Cert.Arrow

open Idealize.ShloMosaic

/-- A stack of matrices read at an index, by its coordinates. -/
theorem up3_at {B n k : ℕ} (M : ℕ → Matrix (Fin n) (Fin k) ℝ) (y : (⟨3, ![B, n, k]⟩ : Shape).Idx) (b : ℕ) (i : Fin n) (j : Fin k)
    (h0 : (y 0).val = b) (h1 : (y 1).val = i.val) (h2 : (y 2).val = j.val) :
    up3 (fun b : Fin B => M b.val) y = ((M b i j : ℝ) : EReal) := by
  subst h0
  have e1 : y 1 = i := Fin.ext h1
  have e2 : y 2 = j := Fin.ext h2
  subst e1 e2
  rfl

/-- A matrix read at an index, by its coordinates. -/
theorem up2_at {n k : ℕ} (M : Matrix (Fin n) (Fin k) ℝ) (y : (⟨2, ![n, k]⟩ : Shape).Idx) (i : Fin n) (j : Fin k)
    (h1 : (y 0).val = i.val) (h2 : (y 1).val = j.val) :
    up2 M y = ((M i j : ℝ) : EReal) := by
  have e1 : y 0 = i := Fin.ext h1
  have e2 : y 1 = j := Fin.ext h2
  subst e1 e2
  rfl

end Cert.Arrow

end
-- ==== Proof.Pay.Consts.lean ====
/- The constants of the kernel and the reference as extended reals. -/
module

public import proofs.«01_k».proof.Defs
public import proofs.«01_k».proof.Proof.Arrow.Input
public import proofs.«01_k».proof.Proof.Arrow.Lift

@[expose] public section

noncomputable section

namespace Cert.Arrow

open Idealize.ShloMosaic

/-- The jitter's pattern. -/
theorem ofBits_eps : Ideal.ofBits .f32 953267991#32 = ((eps : ℝ) : EReal) := by
  unfold eps
  simp [Ideal.ofBits, Ideal.ieee, -EReal.coe_mul]
  norm_num

/-- The jitter's root. -/
theorem named_root : Named.named (F := Ideal) (φ := .f32) Cert.KernelIdeal.κ "root" 1008981770#32 = ((√eps : ℝ) : EReal) :=
  IdealRules.named_const.ideal_named_scalar _ _ _ _ rfl

end Cert.Arrow

end
-- ==== Proof.Arrow.Loops.lean ====
/- The loops of the factorisation over the reals: the column loops that build a Cholesky factor, the row loop and the
   doubling that invert a triangular matrix, and the doubling that sums prefixes. -/
module

public import proofs.«01_k».proof.Proof.Arrow.Chol

@[expose] public section

noncomputable section

namespace Cert.Arrow

open Matrix

variable {n : ℕ}

/-- One trip of the in-place column loop: column `k` becomes the factor's column, the rest is reduced by its outer product. -/
def cholStep (k : Fin n) (X : Matrix (Fin n) (Fin n) ℝ) : Matrix (Fin n) (Fin n) ℝ := fun i j =>
  if j = k then (if k ≤ i then X k i * (√(X k k))⁻¹ else 0)
  else X i j - (if k ≤ i then X k i * (√(X k k))⁻¹ else 0) * (if k ≤ j then X k j * (√(X k k))⁻¹ else 0)

/-- The matrix before trip `k`: the factor's columns before `k`, and the matrix reduced by them. -/
def cholState (A G : Matrix (Fin n) (Fin n) ℝ) (k : ℕ) : Matrix (Fin n) (Fin n) ℝ := fun i j =>
  if j.val < k then G i j else A i j - ∑ l, if l.val < k then G i l * G j l else 0

theorem IsChol.apply {A G : Matrix (Fin n) (Fin n) ℝ} (h : IsChol A G) (i j : Fin n) : A i j = ∑ l, G i l * G j l := by
  conv_lhs => rw [h.eq]
  rfl

/-- What is left of row `k` after the columns before `k`: the factor's column `k` times its pivot. -/
theorem IsChol.rest {A G : Matrix (Fin n) (Fin n) ℝ} (h : IsChol A G) (k i : Fin n) :
    A k i - (∑ l, if l.val < k.val then G k l * G i l else 0) = G k k * G i k := by
  rw [h.apply, ← Finset.sum_sub_distrib, Finset.sum_eq_single k]
  · simp
  · intro l _ hl
    rcases lt_or_gt_of_ne hl with h1 | h1
    · rw [if_pos (show l.val < k.val from h1)]; ring
    · rw [if_neg (show ¬ l.val < k.val from not_lt.mpr h1.le), h.lower k l h1]; ring
  · simp

theorem cholState_row {A G : Matrix (Fin n) (Fin n) ℝ} (h : IsChol A G) (k i : Fin n) (hi : k ≤ i) :
    cholState A G k k i = G k k * G i k := by
  unfold cholState
  rw [if_neg (by simpa using hi), h.rest]

theorem cholState_pivot {A G : Matrix (Fin n) (Fin n) ℝ} (h : IsChol A G) (k : Fin n) : 0 < cholState A G k k k := by
  rw [cholState_row h k k le_rfl]; exact mul_pos (h.pos k) (h.pos k)

theorem cholState_col {A G : Matrix (Fin n) (Fin n) ℝ} (h : IsChol A G) (k i : Fin n) :
    (if k ≤ i then cholState A G k k i * (√(cholState A G k k k))⁻¹ else 0) = G i k := by
  by_cases hi : k ≤ i
  · rw [if_pos hi, cholState_row h k i hi, cholState_row h k k le_rfl, Real.sqrt_mul_self (h.pos k).le]
    have := (h.pos k).ne'
    field_simp
  · rw [if_neg hi, h.lower i k (not_le.mp hi)]

/-- A trip takes the matrix before trip `k` to that before trip `k + 1`. -/
theorem cholStep_state {A G : Matrix (Fin n) (Fin n) ℝ} (h : IsChol A G) (k : Fin n) :
    cholStep k (cholState A G k) = cholState A G (k.val + 1) := by
  funext i j
  unfold cholStep
  rw [cholState_col h k i, cholState_col h k j]
  by_cases hj : j = k
  · subst hj
    rw [if_pos rfl]; unfold cholState; rw [if_pos (Nat.lt_succ_self _)]
  · rw [if_neg hj]
    have hjv : j.val ≠ k.val := fun e => hj (Fin.ext e)
    unfold cholState
    by_cases hlt : j.val < k.val
    · rw [if_pos hlt, if_pos (by omega), h.lower j k hlt]; ring
    · rw [if_neg hlt, if_neg (by omega)]
      have : (∑ l : Fin n, if l.val < k.val + 1 then G i l * G j l else 0)
          = (∑ l : Fin n, if l.val < k.val then G i l * G j l else 0) + G i k * G j k := by
        have e : G i k * G j k = ∑ l : Fin n, if l = k then G i l * G j l else 0 := by simp
        rw [e, ← Finset.sum_add_distrib]
        refine Finset.sum_congr rfl fun l _ => ?_
        by_cases h1 : l = k
        · subst h1; simp
        · have : l.val ≠ k.val := fun e => h1 (Fin.ext e)
          by_cases h2 : l.val < k.val
          · rw [if_pos (by omega), if_pos h2, if_neg h1, add_zero]
          · rw [if_neg (by omega), if_neg h2, if_neg h1, add_zero]
      rw [this]; ring

theorem cholState_zero (A G : Matrix (Fin n) (Fin n) ℝ) : cholState A G 0 = A := by
  funext i j; simp [cholState]

theorem cholState_last (A G : Matrix (Fin n) (Fin n) ℝ) : cholState A G n = G := by
  funext i j; simp [cholState]

/-- One trip of the left-looking column loop: column `k` of the factor from the columns before it. -/
def colStep (A : Matrix (Fin n) (Fin n) ℝ) (k : Fin n) (C : Matrix (Fin n) (Fin n) ℝ) : Matrix (Fin n) (Fin n) ℝ := fun i j =>
  if j = k then (if k ≤ i then (A i k - ∑ l, C i l * C k l) / √(A k k - ∑ l, C k l * C k l) else 0) else C i j

/-- The matrix before trip `k`: the factor's columns before `k`. -/
def colState (G : Matrix (Fin n) (Fin n) ℝ) (k : ℕ) : Matrix (Fin n) (Fin n) ℝ := fun i j => if j.val < k then G i j else 0

theorem colState_rest {A G : Matrix (Fin n) (Fin n) ℝ} (h : IsChol A G) (k i : Fin n) :
    A i k - ∑ l, colState G k i l * colState G k k l = G i k * G k k := by
  have h1 := h.rest k i
  have h2 : A k i = A i k := by rw [h.apply, h.apply]; exact Finset.sum_congr rfl fun l _ => mul_comm _ _
  rw [← h2, mul_comm (G i k), ← h1]
  congr 1
  refine Finset.sum_congr rfl fun l _ => ?_
  unfold colState
  by_cases h3 : l.val < k.val
  · simp only [if_pos h3]; ring
  · simp only [if_neg h3]; ring

theorem colStep_state {A G : Matrix (Fin n) (Fin n) ℝ} (h : IsChol A G) (k : Fin n) :
    colStep A k (colState G k) = colState G (k.val + 1) := by
  funext i j
  unfold colStep
  rw [colState_rest h k i, colState_rest h k k, Real.sqrt_mul_self (h.pos k).le]
  have hk := (h.pos k).ne'
  unfold colState
  by_cases hj : j = k
  · subst hj
    rw [if_pos rfl, if_pos (Nat.lt_succ_self _)]
    by_cases hi : j ≤ i
    · rw [if_pos hi]; field_simp
    · rw [if_neg hi, h.lower i j (not_le.mp hi)]
  · have hjv : j.val ≠ k.val := fun e => hj (Fin.ext e)
    rw [if_neg hj]
    by_cases hlt : j.val < k.val
    · rw [if_pos hlt, if_pos (by omega)]
    · rw [if_neg hlt, if_neg (by omega)]

theorem colState_zero (G : Matrix (Fin n) (Fin n) ℝ) : colState G 0 = 0 := by
  funext i j; simp [colState]

theorem colState_last (G : Matrix (Fin n) (Fin n) ℝ) : colState G n = G := by
  funext i j; simp [colState]

/-! ## Inverting a triangular matrix -/

/-- The diagonal blocks of side `s`. -/
def blk (s : ℕ) (L : Matrix (Fin n) (Fin n) ℝ) : Matrix (Fin n) (Fin n) ℝ := fun i j =>
  if i.val / s = j.val / s then L i j else 0

/-- The blocks of side `s` beside the diagonal, within the diagonal blocks of side `2 s`. -/
def off (s : ℕ) (L : Matrix (Fin n) (Fin n) ℝ) : Matrix (Fin n) (Fin n) ℝ := fun i j =>
  if i.val / (2 * s) = j.val / (2 * s) ∧ i.val / s ≠ j.val / s then L i j else 0

/-- One trip of the row loop: the rows at position `k` of their 16-blocks. -/
def triStep (Lb : Matrix (Fin n) (Fin n) ℝ) (d : Fin n → ℝ) (k : ℕ) (X : Matrix (Fin n) (Fin n) ℝ) : Matrix (Fin n) (Fin n) ℝ :=
  fun i j => if i.val % 16 = k then ((if i = j then 1 else 0) - ∑ c, Lb i c * X c j) / d i else X i j

/-- The rows filled before trip `k`. -/
def triState (Y : Matrix (Fin n) (Fin n) ℝ) (k : ℕ) : Matrix (Fin n) (Fin n) ℝ := fun i j => if i.val % 16 < k then Y i j else 0

theorem triStep_state {Lb Y : Matrix (Fin n) (Fin n) ℝ} {d : Fin n → ℝ} (hl : ∀ i j, i < j → Lb i j = 0)
    (hb : ∀ i j : Fin n, i.val / 16 ≠ j.val / 16 → Lb i j = 0) (hd : ∀ i, Lb i i = d i) (hp : ∀ i, 0 < d i) (hY : Lb * Y = 1)
    (k : ℕ) : triStep Lb d k (triState Y k) = triState Y (k + 1) := by
  funext i j
  unfold triStep
  by_cases hi : i.val % 16 = k
  · rw [if_pos hi]
    have h1 : (if i = j then (1 : ℝ) else 0) = ∑ c, Lb i c * Y c j := by
      have := congrFun (congrFun hY i) j
      rw [Matrix.mul_apply, Matrix.one_apply] at this
      exact this.symm
    have h2 : (∑ c, Lb i c * Y c j) - ∑ c, Lb i c * triState Y k c j = d i * Y i j := by
      rw [← Finset.sum_sub_distrib, Finset.sum_eq_single i]
      · unfold triState; rw [if_neg (by omega), hd]; ring
      · intro c _ hc
        by_cases hcb : i.val / 16 = c.val / 16
        · rcases lt_or_gt_of_ne hc with h3 | h3
          · unfold triState; rw [if_pos (by have : c.val < i.val := h3; omega)]; ring
          · rw [hl i c h3]; ring
        · rw [hb i c hcb]; ring
      · simp
    rw [h1, h2]
    unfold triState
    rw [if_pos (by omega)]
    have := (hp i).ne'
    field_simp
  · rw [if_neg hi]
    unfold triState
    by_cases h : i.val % 16 < k
    · rw [if_pos h, if_pos (by omega)]
    · rw [if_neg h, if_neg (by omega)]

theorem triState_zero (Y : Matrix (Fin n) (Fin n) ℝ) : triState Y 0 = 0 := by funext i j; simp [triState]

theorem triState_last (Y : Matrix (Fin n) (Fin n) ℝ) : triState Y 16 = Y := by
  funext i j; unfold triState; rw [if_pos (by omega)]

theorem isUnit_blk {L : Matrix (Fin n) (Fin n) ℝ} (hl : ∀ i j, i < j → L i j = 0) (hp : ∀ i, 0 < L i i) (s : ℕ) :
    IsUnit (blk s L).det :=
  isUnit_det_of_lower (fun i j h => by unfold blk; rw [hl i j h]; simp) (fun i => by unfold blk; simpa using hp i)

/-- The inverse of a block diagonal matrix is block diagonal. -/
theorem blk_inv {L : Matrix (Fin n) (Fin n) ℝ} {s : ℕ} (h : IsUnit (blk s L).det) : blk s (blk s L)⁻¹ = (blk s L)⁻¹ := by
  symm
  apply Matrix.inv_eq_right_inv
  have h1 := Matrix.mul_nonsing_inv _ h
  ext i j
  have h2 := congrFun (congrFun h1 i) j
  rw [Matrix.mul_apply] at h2 ⊢
  by_cases hij : i.val / s = j.val / s
  · rw [← h2]
    refine Finset.sum_congr rfl fun c _ => ?_
    by_cases hc : i.val / s = c.val / s
    · congr 1; unfold blk; rw [if_pos (by rw [← hc, hij])]
    · have : blk s L i c = 0 := by unfold blk; rw [if_neg hc]
      rw [this, zero_mul, zero_mul]
  · rw [Matrix.one_apply_ne (by rintro rfl; exact hij rfl)]
    refine Finset.sum_eq_zero fun c _ => ?_
    by_cases hc : i.val / s = c.val / s
    · have : blk s (blk s L)⁻¹ c j = 0 := by
        have hn : ¬ (c.val / s = j.val / s) := by rw [← hc]; exact hij
        conv_lhs => unfold blk
        rw [if_neg hn]
      rw [this, mul_zero]
    · have : blk s L i c = 0 := by unfold blk; rw [if_neg hc]
      rw [this, zero_mul]

/-- Doubling the side of the inverted diagonal blocks. -/
theorem blk_double {L : Matrix (Fin n) (Fin n) ℝ} (hl : ∀ i j, i < j → L i j = 0) (hp : ∀ i, 0 < L i i) (s : ℕ) :
    (blk s L)⁻¹ - (blk s L)⁻¹ * off s L * (blk s L)⁻¹ = (blk (2 * s) L)⁻¹ := by
  have hu := isUnit_blk hl hp s
  have hX := Matrix.mul_nonsing_inv _ hu
  have hsupp := blk_inv hu
  set X := (blk s L)⁻¹ with hXdef
  have hsplit : blk (2 * s) L = blk s L + off s L := by
    ext i j
    rw [Matrix.add_apply]
    unfold blk off
    have key : i.val / s = j.val / s → i.val / (2 * s) = j.val / (2 * s) := by
      intro h
      rw [mul_comm, ← Nat.div_div_eq_div_mul, ← Nat.div_div_eq_div_mul, h]
    by_cases h1 : i.val / s = j.val / s
    · rw [if_pos (key h1), if_pos h1, if_neg (by tauto), add_zero]
    · by_cases h2 : i.val / (2 * s) = j.val / (2 * s)
      · rw [if_pos h2, if_neg h1, if_pos ⟨h2, h1⟩, zero_add]
      · rw [if_neg h2, if_neg h1, if_neg (by tauto), zero_add]
  have hzero : off s L * X * off s L = 0 := by
    ext i j
    rw [Matrix.mul_apply, Matrix.zero_apply]
    refine Finset.sum_eq_zero fun d _ => ?_
    rw [Matrix.mul_apply]
    by_cases hd : off s L d j = 0
    · rw [hd, mul_zero]
    · have hdj : d.val / (2 * s) = j.val / (2 * s) ∧ d.val / s ≠ j.val / s := by
        by_contra hc; apply hd; unfold off; rw [if_neg hc]
      have hdj' : ¬ d < j := by
        intro hc; apply hd; unfold off; rw [hl d j hc]; simp
      rw [Finset.sum_eq_zero, zero_mul]
      intro c _
      by_cases hc : off s L i c = 0
      · rw [hc, zero_mul]
      · have hic : i.val / (2 * s) = c.val / (2 * s) ∧ i.val / s ≠ c.val / s := by
          by_contra hc'; apply hc; unfold off; rw [if_neg hc']
        have hic' : ¬ i < c := by
          intro hc'; apply hc; unfold off; rw [hl i c hc']; simp
        have h3 : ¬ (c.val / s = d.val / s) := by
          intro h4
          have h5 : c.val / s ≤ i.val / s := Nat.div_le_div_right (by simpa using hic')
          have h6 : j.val / s ≤ d.val / s := Nat.div_le_div_right (by simpa using hdj')
          have h7 := hic.1
          have h8 := hdj.1
          rw [mul_comm, ← Nat.div_div_eq_div_mul, ← Nat.div_div_eq_div_mul] at h7 h8
          have h9 := hic.2
          have h10 := hdj.2
          omega
        have : X c d = 0 := by rw [← hsupp]; unfold blk; rw [if_neg h3]
        rw [this, mul_zero]
  symm
  apply Matrix.inv_eq_right_inv
  rw [hsplit]
  have : (blk s L + off s L) * (X - X * off s L * X)
      = blk s L * X + off s L * X - (blk s L * X) * off s L * X - (off s L * X * off s L) * X := by
    noncomm_ring
  rw [this, hX, hzero]
  noncomm_ring

theorem blk_all {L : Matrix (Fin n) (Fin n) ℝ} {s : ℕ} (h : n ≤ s) : blk s L = L := by
  ext i j
  unfold blk
  rw [if_pos]
  rw [Nat.div_eq_of_lt (by omega), Nat.div_eq_of_lt (by omega)]

/-! ## Prefix sums by doubling -/

/-- The sum of the `s` entries that end at `b`, as a difference of prefix sums. -/
def win (P : ℕ → ℝ) (s b : ℕ) : ℝ := P (b + 1) - P (b + 1 - s)

theorem win_double (P : ℕ → ℝ) (h0 : P 0 = 0) (s b : ℕ) :
    win P s b + (if b < s then 0 else win P s (b - s)) = win P (2 * s) b := by
  unfold win
  by_cases h : b < s
  · rw [if_pos h, show b + 1 - s = 0 by omega, show b + 1 - 2 * s = 0 by omega]; ring
  · rw [if_neg h, show b - s + 1 = b + 1 - s by omega, show b + 1 - s - s = b + 1 - 2 * s by omega]; ring

end Cert.Arrow

end
-- ==== Proof.Arrow.Folds.lean ====
/- The counted loops of the factorisation on stacks of real matrices. -/
module

public import proofs.«01_k».proof.Proof.Arrow.Lift
public import proofs.«01_k».proof.Proof.Arrow.Loops

@[expose] public section

noncomputable section

namespace Cert.Arrow

open Idealize.ShloMosaic Matrix

/-- A loop whose trips are the column steps ends at the Cholesky factors. -/
theorem fold_chol {B n N : ℕ} (hN : N = n) {A G : Fin B → Matrix (Fin n) (Fin n) ℝ} (h : ∀ b, IsChol (A b) (G b))
    (g : Fin N → ((⟨3, ![B, n, n]⟩ : Shape).Idx → EReal) → (⟨3, ![B, n, n]⟩ : Shape).Idx → EReal)
    (hg : ∀ (k : Fin N) (M : Fin B → Matrix (Fin n) (Fin n) ℝ), (∀ b, 0 < M b (Fin.cast hN k) (Fin.cast hN k)) →
      g k (up3 M) = up3 fun b => cholStep (Fin.cast hN k) (M b)) :
    Scf.fold g (up3 A) = up3 G := by
  have := fold_induct (fun k X => X = up3 fun b => cholState (A b) (G b) k) g (up3 A)
    (by simp only [cholState_zero]) (by
      rintro k _ rfl
      refine (hg k (fun b => cholState (A b) (G b) k.val) fun b => cholState_pivot (h b) (Fin.cast hN k)).trans ?_
      congr 1; funext b
      exact cholStep_state (h b) (Fin.cast hN k))
  rw [this]
  congr 1; funext b
  rw [hN, cholState_last]

/-- A loop whose trips are the row steps ends at the inverses of the diagonal blocks of side 16. -/
theorem fold_tri {B n N : ℕ} (hN : N = 16) {L : Fin B → Matrix (Fin n) (Fin n) ℝ} (hl : ∀ b i j, i < j → L b i j = 0)
    (hp : ∀ b i, 0 < L b i i)
    (g : Fin N → ((⟨3, ![B, n, n]⟩ : Shape).Idx → EReal) → (⟨3, ![B, n, n]⟩ : Shape).Idx → EReal)
    (hg : ∀ (k : Fin N) (M : Fin B → Matrix (Fin n) (Fin n) ℝ),
      g k (up3 M) = up3 fun b => triStep (blk 16 (L b)) (fun i => L b i i) k.val (M b))
    (X : (⟨3, ![B, n, n]⟩ : Shape).Idx → EReal) (hX : X = up3 fun _ => 0) :
    Scf.fold g X = up3 fun b => (blk 16 (L b))⁻¹ := by
  have hst : ∀ b k, triStep (blk 16 (L b)) (fun i => L b i i) k (triState (blk 16 (L b))⁻¹ k) = triState (blk 16 (L b))⁻¹ (k + 1) := by
    intro b k
    refine triStep_state (fun i j hij => ?_) (fun i j hij => ?_) (fun i => ?_) (hp b) (Matrix.mul_nonsing_inv _ (isUnit_blk (hl b) (hp b) 16)) k
    · unfold blk; rw [hl b i j hij]; simp
    · unfold blk; rw [if_neg hij]
    · unfold blk; rw [if_pos rfl]
  have := fold_induct (fun k X => X = up3 fun b => triState (blk 16 (L b))⁻¹ k) g X
    (by simp only [triState_zero]; exact hX) (by
      rintro k _ rfl
      rw [hg k _]
      congr 1; funext b
      exact hst b k.val)
  rw [this]
  congr 1; funext b
  rw [hN, triState_last]

end Cert.Arrow

end
-- ==== Proof.Pay.Factor1.lean ====
/- What the first kernel's operations compute on real arrays: the leading factor, the diagonal blocks' factors and their inverses. -/
module

public import proofs.«01_k».proof.Proof.Gen.KernelIdeal.Skeleton
public import proofs.«01_k».proof.Proof.Pay.Consts
public import proofs.«01_k».proof.Proof.Arrow.Folds

@[expose] public section

set_option maxRecDepth 16384

noncomputable section

namespace Cert.Pay

open Cert.KernelIdeal Cert.KernelIdeal.Gen Cert.Arrow
open Idealize.ShloMosaic Matrix

abbrev r1_64 : IVec S1x64x64 32 := iota Kind.tc S1x64x64 32 [1] iota_S1x64x64_d1_w32
abbrev c1_64 : IVec S1x64x64 32 := iota Kind.tc S1x64x64 32 [2] iota_S1x64x64_d2_w32
abbrev r1_16 : IVec S1x16x16 32 := iota Kind.tc S1x16x16 32 [1] iota_S1x16x16_d1_w32
abbrev c1_16 : IVec S1x16x16 32 := iota Kind.tc S1x16x16 32 [2] iota_S1x16x16_d2_w32

/-- The two leading covariances. -/
theorem k0_cov (x : Vec Ideal S64x64 .f32) (L : Matrix (Fin 64) (Fin 64) ℝ) (h : k0_pay2 x = up2 L) :
    k0_pay3 x = up3 fun b : Fin 2 => if b.val < 1 then L * Lᵀ + eps • (1 : Matrix (Fin 64) (Fin 64) ℝ) else Lᵀ * L + eps • (1 : Matrix (Fin 64) (Fin 64) ℝ) := by
  refine up3_ext fun b i j => ?_
  unfold k0_pay3
  rw [h]
  pointwise
  simp (disch := omega) only [sel_eq, up2_ix, ofBits_eps, ← EReal.coe_mul, coe_sum, coe_ite_zero, ← EReal.coe_add]
  split_ifs with hb hij hij <;>
    simp only [hij, if_true, if_false, Matrix.add_apply, Matrix.mul_apply, Matrix.transpose_apply, Matrix.smul_apply, Matrix.one_apply, Fin.ext_iff, smul_eq_mul, mul_ite, mul_one, mul_zero]

theorem k0_col (k : Fin 64) (M : Fin 2 → Matrix (Fin 64) (Fin 64) ℝ) (h : ∀ b, 0 < M b k k) :
    k0_pay4 (F := Ideal) k (up3 M) = up3 fun b => cholStep k (M b) := by
  refine up3_ext fun b i j => ?_
  pointwise [k0_pay4]
  simp (disch := omega) only [iv_ofNat, sel_eq, sel_ge, up3_ix, sum_pick, Fin.eta, rsqrt_pos (h b)]
  simp only [cholStep, Fin.ext_iff, Fin.le_def]
  split_ifs <;> first | rfl | simp only [← EReal.coe_mul, ← EReal.coe_sub, sub_zero, zero_mul, mul_zero]

theorem k0_tril (G : Fin 2 → Matrix (Fin 64) (Fin 64) ℝ) (h : ∀ b i j, i < j → G b i j = 0) : k0_pay5 (F := Ideal) (up3 G) = up3 G := by
  refine up3_ext fun b i j => ?_
  pointwise [k0_pay5]
  simp (disch := omega) only [sel_ge, up3_ix]
  split_ifs with hij
  · rfl
  · rw [h b i j (not_le.mp hij)]; rfl

theorem k0_chol {A G : Fin 2 → Matrix (Fin 64) (Fin 64) ℝ} (h : ∀ b, IsChol (A b) (G b)) :
    k0_pay5 (F := Ideal) (Scf.fold (fun a x => k0_pay4 a x) (up3 A)) = up3 G := by
  have e : Scf.fold (fun a x => k0_pay4 (F := Ideal) a x) (up3 A) = up3 G :=
    fold_chol (N := k0_t1_loop.trips) (n := 64) rfl h _ fun k M hM => k0_col k M hM
  rw [e]
  exact k0_tril G fun b => (h b).lower

/-- A trip of the row loop of the two leading factors. -/
theorem k0_row (L : Fin 2 → Matrix (Fin 64) (Fin 64) ℝ) (k : Fin 16) (M : Fin 2 → Matrix (Fin 64) (Fin 64) ℝ) (h : ∀ b i, L b i i ≠ 0) :
    k0_pay15 (F := Ideal) (up3 L) r1_64 k0_pay6 (k0_pay9 (up3 L) k0_pay7 k0_pay8) (k0_pay10 r1_64) (k0_pay11 c1_64)
      (k0_pay12 c1_64) (k0_pay13 c1_64) k (up3 M)
    = up3 fun b => triStep (blk 16 (L b)) (fun i => L b i i) k (M b) := by
  refine up3_ext fun b i j => ?_
  pointwise [k0_pay15,k0_pay6,k0_pay7,k0_pay8,k0_pay9,k0_pay10,k0_pay11,k0_pay12,k0_pay13]
  simp (disch := omega) only [sign16, safe16, floor_div (d := 16#32) (.inl rfl), floor_mod, iv_ofNat, BitVec.toNat_ofNat, Nat.reducePow, Nat.reduceMod, sel_eq, up3_ix, sum_diag]
  simp only [coe_one_zero, coe_ite_zero, ← EReal.coe_mul, coe_sum, ← EReal.coe_sub]
  rw [div_real (h b i), coe_ite]
  congr 1
  unfold triStep blk
  simp only [Fin.ext_iff, ite_mul, zero_mul]

theorem k0_inv16 {L : Fin 2 → Matrix (Fin 64) (Fin 64) ℝ} (hl : ∀ b i j, i < j → L b i j = 0) (hp : ∀ b i, 0 < L b i i) :
    Scf.fold (fun a x => k0_pay15 (F := Ideal) (up3 L) r1_64 k0_pay6 (k0_pay9 (up3 L) k0_pay7 k0_pay8) (k0_pay10 r1_64) (k0_pay11 c1_64)
      (k0_pay12 c1_64) (k0_pay13 c1_64) a x) k0_pay14 = up3 fun b => (blk 16 (L b))⁻¹ :=
  fold_tri (N := k0_t2_loop.trips) (n := 64) rfl hl hp _ (fun k M => k0_row L k M fun b i => (hp b i).ne') _
    (up3_ext fun b i j => by pointwise [k0_pay14]; rfl)

theorem k0_inv32 {L : Fin 2 → Matrix (Fin 64) (Fin 64) ℝ} (hl : ∀ b i j, i < j → L b i j = 0) (hp : ∀ b i, 0 < L b i i) :
    k0_pay24 (F := Ideal) (up3 L) c1_64 (up3 fun b => (blk 16 (L b))⁻¹)
      (k0_pay20 c1_64 (k0_pay16 r1_64) (32#32) (k0_pay17 c1_64) (k0_pay18 c1_64) (k0_pay19 c1_64))
      (k0_pay21 r1_64) (16#32) (k0_pay22 c1_64) (k0_pay23 c1_64) = up3 fun b => (blk 32 (L b))⁻¹ := by
  refine up3_ext fun b i j => ?_
  pointwise [k0_pay24, k0_pay20, k0_pay16, k0_pay17, k0_pay18, k0_pay19, k0_pay21, k0_pay22, k0_pay23]
  simp (disch := omega) only [sign16, sign32, floor_div (d := 16#32) (.inl rfl), floor_div (d := 32#32) (.inr (.inl rfl)), BitVec.toNat_ofNat, Nat.reducePow, Nat.reduceMod, sel_and, up3_ix]
  simp only [coe_one_zero, coe_ite_zero, ← EReal.coe_mul, coe_sum, ← EReal.coe_sub]
  congr 1
  rw [← blk_double (hl b) (hp b) 16]
  simp only [Matrix.sub_apply, Matrix.mul_apply, off, mul_ite, mul_zero]

theorem k0_inv64 {L : Fin 2 → Matrix (Fin 64) (Fin 64) ℝ} (hl : ∀ b i j, i < j → L b i j = 0) (hp : ∀ b i, 0 < L b i i) :
    k0_pay31 (F := Ideal) (up3 L) r1_64 c1_64 (up3 fun b => (blk 32 (L b))⁻¹)
      (k0_pay28 c1_64 (k0_pay25 r1_64) (k0_pay26 r1_64) (k0_pay27 r1_64) 0#32)
      (32#32) (k0_pay29 r1_64) (k0_pay30 r1_64) = up3 fun b => (L b)⁻¹ := by
  refine up3_ext fun b i j => ?_
  pointwise [k0_pay31, k0_pay28, k0_pay25, k0_pay26, k0_pay27, k0_pay29, k0_pay30]
  simp (disch := omega) only [sign64, sign32, floor_div (d := 64#32) (.inr (.inr rfl)), floor_div (d := 32#32) (.inr (.inl rfl)), BitVec.toNat_ofNat, Nat.reducePow, Nat.reduceMod, sel_and, up3_ix]
  simp only [coe_one_zero, coe_ite_zero, ← EReal.coe_mul, coe_sum, ← EReal.coe_sub]
  congr 1
  have e : (L b)⁻¹ = (blk (2 * 32) (L b))⁻¹ := by rw [blk_all (by norm_num)]
  rw [e, ← blk_double (hl b) (hp b) 32]
  simp only [Matrix.sub_apply, Matrix.mul_apply, off, mul_ite, mul_zero]

theorem k0_gzzt (G : Fin 2 → Matrix (Fin 64) (Fin 64) ℝ) : k0_pay34 (F := Ideal) (up3 G) = up2 (G 0)ᵀ := by
  refine up2_ext fun i j => ?_
  pointwise [k0_pay34]
  rfl

theorem k0_ft (L M : Matrix (Fin 64) (Fin 64) ℝ) : k0_pay35 (F := Ideal) (up2 L) (up2 M) = up2 (M * L) := by
  refine up2_ext fun i j => ?_
  pointwise [k0_pay35]
  simp only [up2_ix, ← EReal.coe_mul, coe_sum, Matrix.mul_apply]

theorem k0_root (M : Matrix (Fin 64) (Fin 64) ℝ) : k0_pay36 (F := Ideal) (up2 M) = up2 (√eps • Mᵀ) := by
  refine up2_ext fun i j => ?_
  pointwise [k0_pay36]
  rw [named_root, up2_ix, ← EReal.coe_mul]
  rfl

/-! ## The diagonal blocks -/

theorem k0_cov16 (x : Vec Ideal S512x16x16 .f32) (L : Fin 512 → Matrix (Fin 16) (Fin 16) ℝ)
    (h : ∀ b i j, (if j.val ≤ i.val then x (ix3 b i j) else 0) = ((L b i j : ℝ) : EReal)) :
    k0_pay37 x = up3 fun b => L b * (L b)ᵀ + eps • (1 : Matrix (Fin 16) (Fin 16) ℝ) := by
  refine up3_ext fun b i j => ?_
  pointwise [k0_pay37]
  simp (disch := omega) only [sel_eq, sel_ge, ofBits_eps]
  have e : ∀ c : Fin 16, (if c.val ≤ j.val then (if c.val ≤ i.val then x (ix3 b i c) * x (ix3 b j c) else 0) else 0) = ((L b i c * L b j c : ℝ) : EReal) := by
    intro c
    rw [EReal.coe_mul, ← h b i c, ← h b j c]
    split_ifs <;> simp
  simp only [e, coe_sum, coe_ite_zero, ← EReal.coe_add, Matrix.add_apply, Matrix.mul_apply, Matrix.transpose_apply, Matrix.smul_apply, Matrix.one_apply, Fin.ext_iff, smul_eq_mul, mul_ite, mul_one, mul_zero]

theorem k0_col16 (k : Fin 16) (M : Fin 512 → Matrix (Fin 16) (Fin 16) ℝ) (h : ∀ b, 0 < M b k k) :
    k0_pay38 (F := Ideal) k (up3 M) = up3 fun b => cholStep k (M b) := by
  refine up3_ext fun b i j => ?_
  pointwise [k0_pay38]
  simp (disch := omega) only [iv_ofNat, sel_eq, sel_ge, up3_ix, sum_pick, Fin.eta, rsqrt_pos (h b)]
  simp only [cholStep, Fin.ext_iff, Fin.le_def]
  split_ifs <;> first | rfl | simp only [← EReal.coe_mul, ← EReal.coe_sub, sub_zero, zero_mul, mul_zero]

theorem k0_chol16 {A G : Fin 512 → Matrix (Fin 16) (Fin 16) ℝ} (h : ∀ b, IsChol (A b) (G b)) :
    k0_pay39 (F := Ideal) (Scf.fold (fun a x => k0_pay38 a x) (up3 A)) = up3 G := by
  have e : Scf.fold (fun a x => k0_pay38 (F := Ideal) a x) (up3 A) = up3 G :=
    fold_chol (N := k0_t3_loop.trips) (n := 16) rfl h _ fun k M hM => k0_col16 k M hM
  rw [e]
  refine up3_ext fun b i j => ?_
  pointwise [k0_pay39]
  simp (disch := omega) only [sel_ge, up3_ix]
  split_ifs with hij
  · rfl
  · rw [(h b).lower i j (not_le.mp hij)]; rfl

theorem k0_row16 (L : Fin 512 → Matrix (Fin 16) (Fin 16) ℝ) (k : Fin 16) (M : Fin 512 → Matrix (Fin 16) (Fin 16) ℝ) (h : ∀ b i, L b i i ≠ 0) :
    k0_pay46 (F := Ideal) (up3 L) r1_16 c1_16 (k0_pay40 r1_16) (k0_pay41 (up3 L) r1_16) (k0_pay42 r1_16) (16#32) k0_pay43 k0_pay44 (1#1) k (up3 M)
    = up3 fun b => triStep (blk 16 (L b)) (fun i => L b i i) k (M b) := by
  refine up3_ext fun b i j => ?_
  pointwise [k0_pay46,k0_pay40,k0_pay41,k0_pay42,k0_pay43,k0_pay44]
  simp (disch := omega) only [sign16, sign16', safe16, floor_div (d := 16#32) (.inl rfl), floor_mod, iv_ofNat, BitVec.toNat_ofNat, Nat.reducePow, Nat.reduceMod, sel_eq, up3_ix, sum_diag]
  simp only [coe_one_zero, coe_ite_zero, ← EReal.coe_mul, coe_sum, ← EReal.coe_sub]
  rw [div_real (h b i), coe_ite]
  congr 1
  unfold triStep blk
  simp only [Fin.ext_iff, ite_mul, zero_mul]

theorem k0_inv {L : Fin 512 → Matrix (Fin 16) (Fin 16) ℝ} (hl : ∀ b i j, i < j → L b i j = 0) (hp : ∀ b i, 0 < L b i i) :
    Scf.fold (fun a x => k0_pay46 (F := Ideal) (up3 L) r1_16 c1_16 (k0_pay40 r1_16) (k0_pay41 (up3 L) r1_16) (k0_pay42 r1_16) (16#32) k0_pay43 k0_pay44 (1#1) a x)
      k0_pay45 = up3 fun b => (L b)⁻¹ := by
  have e : (fun b => (L b)⁻¹) = fun b => (blk 16 (L b))⁻¹ := by funext b; rw [blk_all le_rfl]
  rw [e]
  exact fold_tri (N := k0_t4_loop.trips) (n := 16) rfl hl hp _ (fun k M => k0_row16 L k M fun b i => (hp b i).ne') _
    (up3_ext fun b i j => by pointwise [k0_pay45]; rfl)

end Cert.Pay

end
-- ==== Proof.Pay.White.lean ====
/- What the first kernel's operations compute on real arrays: the whitened blocks and the prefix sums of their Gram matrices. -/
module

public import proofs.«01_k».proof.Proof.Gen.KernelIdeal.Skeleton
public import proofs.«01_k».proof.Proof.Pay.Consts
public import proofs.«01_k».proof.Proof.Arrow.Folds

@[expose] public section

set_option maxRecDepth 16384

noncomputable section

namespace Cert.Pay

open Cert.KernelIdeal Cert.KernelIdeal.Gen Cert.Arrow
open Idealize.ShloMosaic Matrix

/-! ## The whitened blocks and their Gram matrices' prefix sums -/

theorem k0_white (C : ℕ → Matrix (Fin 16) (Fin 16) ℝ) (hC : ∀ n, IsUnit (C n).det) (R : Matrix (Fin 64) (Fin 64) ℝ) (U : ℕ → Fin 64 → ℝ) :
    k0_pay47 (F := Ideal) (up2 R) (up3 fun n : Fin 512 => (C n.val)⁻¹) (up2 (n := 8192) (Matrix.of fun i k => U i.val k))
    = up3 fun b : Fin 128 => (bd C b.val)⁻¹ * ((Matrix.of fun r k => U (64 * b.val + r.val) k) * R) := by
  refine up3_ext fun b i j => ?_
  pointwise [k0_pay47]
  simp only [up2_ix, up3_ix, Matrix.of_apply, ← EReal.coe_mul, coe_sum]
  apply congrArg
  rw [bd_inv C hC, Matrix.mul_apply, bd_row]
  refine Finset.sum_congr rfl fun t _ => ?_
  rw [Matrix.mul_apply]
  have e1 : b.val * 4 + i.val / 16 = 4 * b.val + i.val / 16 := by omega
  have e2 : (4 * b.val + i.val / 16) * 16 + t.val = 64 * b.val + (i.val / 16 * 16 + t.val) := by omega
  simp only [e1, Matrix.of_apply]
  apply congrArg
  refine Finset.sum_congr rfl fun k _ => ?_
  exact congrArg (fun x => U x k * R k j) e2

theorem k0_gram (V : Fin 128 → Matrix (Fin 64) (Fin 64) ℝ) (R : FVec Ideal S64x64 .f32) (Ci : FVec Ideal S512x16x16 .f32) (u : Vec Ideal S8192x64 .f32)
    (h : k0_pay47 R Ci u = up3 V) :
    k0_pay49 R Ci u = up3 fun b : Fin 128 => if hb : b.val < 1 then 0 else (V ⟨b.val - 1, by omega⟩)ᵀ * V ⟨b.val - 1, by omega⟩ := by
  refine up3_ext fun b i j => ?_
  pointwise [k0_pay49]
  simp only [h, up3_ix, ← EReal.coe_mul, coe_sum]
  split_ifs <;> rfl

/-- A doubling of the prefix sums: the array plus itself shifted down by `s` blocks. -/
theorem dbl_step {s t : ℕ} (hst : s + t = 128) (P : Fin 64 → Fin 64 → ℕ → ℝ) (hP : ∀ i j, P i j 0 = 0)
    (hs : (⟨3, ![128, 64, 64]⟩ : Shape).Slices ![0, 0, 0] ⟨3, ![t, 64, 64]⟩)
    (hc : Shape.Concatenates [(⟨3, ![s, 64, 64]⟩ : Shape), ⟨3, ![t, 64, 64]⟩] ⟨3, ![128, 64, 64]⟩ 0)
    (v : FVec Ideal S128x64x64 .f32) (hv : v = up3 fun b : Fin 128 => Matrix.of fun i j => win (P i j) s b.val) :
    addf v (concatenate S128x64x64 0 [⟨⟨3, ![s, 64, 64]⟩, broadcast (⟨3, ![s, 64, 64]⟩ : Shape) (Scalar.ofBits (F := Ideal) .f32 0x00000000#32)⟩,
      ⟨⟨3, ![t, 64, 64]⟩, extractStridedSlice ⟨3, ![t, 64, 64]⟩ ![0, 0, 0] v hs⟩] hc)
    = up3 fun b : Fin 128 => Matrix.of fun i j => win (P i j) (2 * s) b.val := by
  subst hv
  refine up3_ext fun b i j => ?_
  pointwise
  rw [Matrix.of_apply, ← win_double (P i j) (hP i j) s b.val]
  by_cases h : b.val < s
  · rw [dif_pos h, if_pos h, add_zero, add_zero]
    rfl
  · rw [dif_neg h, if_neg h, EReal.coe_add]
    rfl

/-- The prefix sums: seven doublings, and the identity. -/
theorem k0_prefix (P : Fin 64 → Fin 64 → ℕ → ℝ) (hP : ∀ i j, P i j 0 = 0) (v : FVec Ideal S128x64x64 .f32)
    (hv : v = up3 fun b : Fin 128 => Matrix.of fun i j => win (P i j) 1 b.val) :
    k0_pay1 k0_pay48 v = up3 fun b : Fin 128 => (Matrix.of fun i j => win (P i j) 128 b.val) + 1 := by
  have h1 := dbl_step (s := 1) (t := 127) rfl P hP slices_S128x64x64_o0_0_0_S127x64x64 concatenates_S1x64x64_S127x64x64_S128x64x64_d0 v hv
  have h2 := dbl_step (s := 2) (t := 126) rfl P hP slices_S128x64x64_o0_0_0_S126x64x64 concatenates_S2x64x64_S126x64x64_S128x64x64_d0 _ h1
  have h3 := dbl_step (s := 4) (t := 124) rfl P hP slices_S128x64x64_o0_0_0_S124x64x64 concatenates_S4x64x64_S124x64x64_S128x64x64_d0 _ h2
  have h4 := dbl_step (s := 8) (t := 120) rfl P hP slices_S128x64x64_o0_0_0_S120x64x64 concatenates_S8x64x64_S120x64x64_S128x64x64_d0 _ h3
  have h5 := dbl_step (s := 16) (t := 112) rfl P hP slices_S128x64x64_o0_0_0_S112x64x64 concatenates_S16x64x64_S112x64x64_S128x64x64_d0 _ h4
  have h6 := dbl_step (s := 32) (t := 96) rfl P hP slices_S128x64x64_o0_0_0_S96x64x64 concatenates_S32x64x64_S96x64x64_S128x64x64_d0 _ h5
  have h7 := dbl_step (s := 64) (t := 64) rfl P hP slices_S128x64x64_o0_0_0_S64x64x64 concatenates_S64x64x64_S64x64x64_S128x64x64_d0 _ h6
  have e : ∀ x y, x = y → addf x (broadcastTo S128x64x64 (k0_pay48 (F := Ideal)) broadcasts_S1x64x64_S128x64x64) = addf y (broadcastTo S128x64x64 (k0_pay48 (F := Ideal)) broadcasts_S1x64x64_S128x64x64) := by
    rintro x _ rfl; rfl
  refine (e _ _ h7).trans ?_
  refine up3_ext fun b i j => ?_
  pointwise [k0_pay48]
  simp (disch := omega) only [sel_eq, up3_ix, coe_one_zero, ← EReal.coe_add]
  simp only [Matrix.add_apply, Matrix.of_apply, Matrix.one_apply, Fin.ext_iff]

end Cert.Pay

end
-- ==== Proof.Value.Region0.lean ====
/- What the first region leaves in its outputs, on real inputs. -/
module

public import proofs.«01_k».proof.Proof.KernelIdealRun.Region0
public import proofs.«01_k».proof.Proof.Pay.Factor1
public import proofs.«01_k».proof.Proof.Pay.White
public import proofs.«01_k».proof.Proof.Arrow.Input
public import Idealize.ShloMosaic.Lib.Pipeline.ValueKit
public import Idealize.ShloMosaic.Lib.Pipeline.ReadBack

@[expose] public section

set_option maxRecDepth 16384

noncomputable section

namespace Cert.Pay

open Cert.KernelIdeal Cert.KernelIdeal.Gen Cert.KernelIdeal.Whole Cert.Arrow
open Idealize.ShloMosaic Idealize.ShloMosaic.TcCoe Idealize.ShloMosaic.Tactic Matrix
open Idealize.SL.Sem

theorem k0_first (M : Fin 2 → Matrix (Fin 64) (Fin 64) ℝ) {a b c d e f g h} (hM : k0_pay31 (F := Ideal) a b c d e f g h = up3 M) :
    k0_pay32 (F := Ideal) a b c d e f g h = up2 (M 0) := by
  unfold k0_pay32
  rw [hM]
  refine up2_ext fun i j => ?_
  pointwise
  rfl

theorem k0_second (M : Fin 2 → Matrix (Fin 64) (Fin 64) ℝ) {a b c d e f g h} (hM : k0_pay31 (F := Ideal) a b c d e f g h = up3 M) :
    k0_pay33 (F := Ideal) a b c d e f g h = up2 (M 1) := by
  unfold k0_pay33
  rw [hM]
  refine up2_ext fun i j => ?_
  pointwise
  rfl

/-- The two leading covariances' factors. -/
def lead (p : Inp) (b : Fin 2) : Matrix (Fin 64) (Fin 64) ℝ := if b.val < 1 then p.data.Gz else chol p.data.H

theorem isChol_lead (p : Inp) (b : Fin 2) :
    IsChol (if b.val < 1 then p.Lz * p.Lzᵀ + eps • (1 : Matrix (Fin 64) (Fin 64) ℝ) else p.Lzᵀ * p.Lz + eps • (1 : Matrix (Fin 64) (Fin 64) ℝ)) (lead p b) := by
  unfold lead
  split_ifs
  · exact p.data.isChol_A
  · exact p.data.isChol_H

/-- The lower triangles of an array's blocks. -/
def TrilIs (x : Vec Ideal S512x16x16 .f32) (L : ℕ → Matrix (Fin 16) (Fin 16) ℝ) : Prop :=
  ∀ (b : Fin 512) (i j : Fin 16), (if j.val ≤ i.val then x (ix3 b i j) else 0) = ((L b.val i j : ℝ) : EReal)

/-- Sums of the first Gram matrices, as the doubling indexes them. -/
def gramSum (p : Inp) (i j : Fin 64) (k : ℕ) : ℝ := ∑ a ∈ Finset.range (k - 1), ((p.data.V a)ᵀ * p.data.V a) i j

theorem gram_one (p : Inp) (b : ℕ) (i j : Fin 64) (h : ¬ b < 1) : win (gramSum p i j) 1 b = ((p.data.V (b - 1))ᵀ * p.data.V (b - 1)) i j := by
  obtain ⟨a, rfl⟩ : ∃ a, b = a + 1 := ⟨b - 1, by omega⟩
  unfold win gramSum
  rw [show a + 1 + 1 - 1 = a + 1 by omega, show a + 1 - 1 = a by omega, Finset.sum_range_succ]
  simp

theorem gram_all (p : Inp) (b : ℕ) (hb : b < 128) : (Matrix.of fun i j => win (gramSum p i j) 128 b) + 1 = p.data.T b := by
  unfold Data.T
  congr 1
  ext i j
  rw [Matrix.of_apply, Matrix.sum_apply]
  unfold win gramSum
  rw [show b + 1 - 1 = b by omega, show b + 1 - 128 - 1 = 0 by omega]
  simp

theorem chol_diag (p : Inp) : k0_pay39 (F := Ideal) (Scf.fold (fun a x => k0_pay38 a x)
    (up3 fun b : Fin 512 => p.Ly b.val * (p.Ly b.val)ᵀ + eps • (1 : Matrix (Fin 16) (Fin 16) ℝ))) = up3 fun b : Fin 512 => p.C b.val :=
  k0_chol16 fun b => p.isChol_C b.val

variable (V : (c : Dev nD) → (b : Ref sig .tc) → Buf (Elt Ideal) ((c : Thread nD τ).loc b)) (c : Dev nD) (t : Fin cfg0.N) (p : Inp)

theorem value0_3 (h0 : k0_pay2 (iblk0 V c 0 t) = up2 p.Lz) : (outsAt0 V c t).1 = up2 p.data.Gzᵀ := by
  unfold outsAt0 out0_A_3; dsimp only
  frame_out
  simp only [read_unread_whole]
  rw [k0_cov _ _ h0, k0_chol (isChol_lead p), k0_gzzt]
  rfl

theorem value0_4 (h0 : k0_pay2 (iblk0 V c 0 t) = up2 p.Lz) : (outsAt0 V c t).2.1 = up2 (p.data.Gz⁻¹ * p.Lz) := by
  unfold outsAt0 out0_A_4; dsimp only
  frame_out
  simp only [read_unread_whole]
  have hl := fun b => (isChol_lead p b).lower
  have hp := fun b => (isChol_lead p b).pos
  rw [k0_cov _ _ h0, k0_chol (isChol_lead p), k0_inv16 hl hp, k0_inv32 hl hp, k0_first _ (k0_inv64 hl hp), h0, k0_ft]
  rfl

theorem value0_5 (h1 : TrilIs (iblk0 V c 1 t) p.Ly) :
    (outsAt0 V c t).2.2.1 = up3 fun b : Fin 512 => p.C b.val := by
  unfold outsAt0 out0_A_5; dsimp only
  frame_out
  simp only [read_unread_whole]
  rw [k0_cov16 _ (fun b => p.Ly b.val) h1, chol_diag p]

theorem value0_6 (h0 : k0_pay2 (iblk0 V c 0 t) = up2 p.Lz)
    (h1 : TrilIs (iblk0 V c 1 t) p.Ly)
    (h2 : iblk0 V c 2 t = up2 (n := 8192) (Matrix.of fun i k => p.U i.val k)) :
    (outsAt0 V c t).2.2.2.1 = up3 fun b : Fin 128 => p.data.V b.val := by
  unfold outsAt0 out0_A_6; dsimp only
  frame_out
  simp only [read_unread_whole]
  have hl := fun b => (isChol_lead p b).lower
  have hp := fun b => (isChol_lead p b).pos
  have hl' := fun b : Fin 512 => (p.isChol_C b.val).lower
  have hp' := fun b : Fin 512 => (p.isChol_C b.val).pos
  rw [k0_cov _ _ h0, k0_chol (isChol_lead p), k0_inv16 hl hp, k0_inv32 hl hp, k0_second _ (k0_inv64 hl hp), k0_root,
    k0_cov16 _ (fun b => p.Ly b.val) h1, chol_diag p, k0_inv hl' hp', h2, k0_white p.C (fun n => (p.isChol_C n).isUnit)]
  rfl

theorem value0_7 (h0 : k0_pay2 (iblk0 V c 0 t) = up2 p.Lz)
    (h1 : TrilIs (iblk0 V c 1 t) p.Ly)
    (h2 : iblk0 V c 2 t = up2 (n := 8192) (Matrix.of fun i k => p.U i.val k)) :
    (outsAt0 V c t).2.2.2.2 = up3 fun b : Fin 128 => p.data.T b.val := by
  unfold outsAt0 out0_A_7; dsimp only
  frame_out
  simp only [read_unread_whole]
  have hl := fun b => (isChol_lead p b).lower
  have hp := fun b => (isChol_lead p b).pos
  have hl' := fun b : Fin 512 => (p.isChol_C b.val).lower
  have hp' := fun b : Fin 512 => (p.isChol_C b.val).pos
  rw [k0_cov _ _ h0, k0_chol (isChol_lead p), k0_inv16 hl hp, k0_inv32 hl hp, k0_second _ (k0_inv64 hl hp), k0_root,
    k0_cov16 _ (fun b => p.Ly b.val) h1, chol_diag p, k0_inv hl' hp', h2,
    show √eps • ((lead p 1)⁻¹)ᵀ = p.data.R from rfl, k0_gram (fun b : Fin 128 => p.data.V b.val) _ _ _ (k0_white p.C (fun n => (p.isChol_C n).isUnit) _ p.U), k0_prefix (gramSum p)]
  · congr 1; funext b
    exact gram_all p b.val b.isLt
  · intro i j; simp [gramSum]
  · congr 1; funext b; ext i j
    rw [Matrix.of_apply]
    split_ifs with h
    · have : b.val = 0 := by omega
      simp [win, gramSum, this]
    · exact (gram_one p b.val i j h).symm

end Cert.Pay

end
-- ==== Proof.Pay.Factor2.lean ====
/- What the second kernel's operations compute on real arrays: the factors of the prefix sums, the whitened diagonal factors and their inverses. -/
module

public import proofs.«01_k».proof.Proof.Pay.Factor1

@[expose] public section

set_option maxRecDepth 16384

noncomputable section

namespace Cert.Pay

open Cert.KernelIdeal Cert.KernelIdeal.Gen Cert.Arrow
open Idealize.ShloMosaic Matrix

local notation "MM" => Fin 16 → Matrix (Fin 64) (Fin 64) ℝ

theorem k1_col (k : Fin 64) (M : MM) (h : ∀ b, 0 < M b k k) :
    k1_pay7 (F := Ideal) k (up3 M) = up3 fun b => cholStep k (M b) := by
  refine up3_ext fun b i j => ?_
  pointwise [k1_pay7]
  simp (disch := omega) only [iv_ofNat, sel_eq, sel_ge, up3_ix, sum_pick, Fin.eta, rsqrt_pos (h b)]
  simp only [cholStep, Fin.ext_iff, Fin.le_def]
  split_ifs <;> first | rfl | simp only [← EReal.coe_mul, ← EReal.coe_sub, sub_zero, zero_mul, mul_zero]

theorem k1_fold {A G : MM} (h : ∀ b, IsChol (A b) (G b)) :
    Scf.fold (fun a x => k1_pay7 (F := Ideal) a x) (up3 A) = up3 G :=
  fold_chol (N := k1_t1_loop.trips) (n := 64) rfl h _ fun k M hM => k1_col k M hM

theorem k1_inv32 {L : MM} (hl : ∀ b i j, i < j → L b i j = 0) (hp : ∀ b i, 0 < L b i i) :
    k1_pay25 (F := Ideal) (up3 L) c1_64 (up3 fun b => (blk 16 (L b))⁻¹)
      (k1_pay20 c1_64 (k1_pay17 r1_64) (32#32) (k1_pay18 c1_64) (k1_pay19 c1_64) 0#32)
      (k1_pay21 r1_64) (16#32) (k1_pay22 c1_64) (k1_pay23 c1_64) (k1_pay24 c1_64) = up3 fun b => (blk 32 (L b))⁻¹ := by
  refine up3_ext fun b i j => ?_
  pointwise [k1_pay25, k1_pay20, k1_pay17, k1_pay18, k1_pay19, k1_pay21, k1_pay22, k1_pay23, k1_pay24]
  simp (disch := omega) only [sign16, sign32, floor_div (d := 16#32) (.inl rfl), floor_div (d := 32#32) (.inr (.inl rfl)), BitVec.toNat_ofNat, Nat.reducePow, Nat.reduceMod, sel_and, up3_ix]
  simp only [coe_one_zero, coe_ite_zero, ← EReal.coe_mul, coe_sum, ← EReal.coe_sub]
  congr 1
  rw [← blk_double (hl b) (hp b) 16]
  simp only [Matrix.sub_apply, Matrix.mul_apply, off, mul_ite, mul_zero]

/-- The last doubling, entry by entry. -/
theorem inv_apply {L : Matrix (Fin 64) (Fin 64) ℝ} (hl : ∀ i j, i < j → L i j = 0) (hp : ∀ i, 0 < L i i) (i j : Fin 64) :
    (blk 32 L)⁻¹ i j - ∑ x, (∑ x_1, if x_1.val / 64 = x.val / 64 ∧ x_1.val / 32 ≠ x.val / 32 then (blk 32 L)⁻¹ i x_1 * L x_1 x else 0) * (blk 32 L)⁻¹ x j = L⁻¹ i j := by
  have e : L⁻¹ = (blk (2 * 32) L)⁻¹ := by rw [blk_all (by norm_num)]
  rw [e, ← blk_double hl hp 32]
  simp only [Matrix.sub_apply, Matrix.mul_apply, off, mul_ite, mul_zero]

theorem k1_w {L : MM} (hl : ∀ b i j, i < j → L b i j = 0) (hp : ∀ b i, 0 < L b i i) (V : MM) :
    k1_pay32 (F := Ideal) (up3 V) (up3 L) c1_64 (up3 fun b => (blk 32 (L b))⁻¹)
      (k1_pay28 c1_64 (k1_pay26 r1_64) (k1_pay27 r1_64)) (k1_pay29 r1_64) (k1_pay30 r1_64) (k1_pay31 r1_64) 0#32
    = up3 fun b => ((L b)⁻¹)ᵀ * ((L b)⁻¹ * (V b)ᵀ) := by
  refine up3_ext fun b i j => ?_
  pointwise [k1_pay32, k1_pay28, k1_pay26, k1_pay27, k1_pay29, k1_pay30, k1_pay31]
  simp (disch := omega) only [sign64, sign32, floor_div (d := 64#32) (.inr (.inr rfl)), floor_div (d := 32#32) (.inr (.inl rfl)), BitVec.toNat_ofNat, Nat.reducePow, Nat.reduceMod, sel_and, up3_ix]
  simp only [coe_one_zero, coe_ite_zero, ← EReal.coe_mul, coe_sum, ← EReal.coe_sub, mul_ite, mul_zero, inv_apply (hl b) (hp b)]
  congr 1

theorem k1_s (V L X W : MM) (m0 : IVec S1x64x64 1) (w0 : IVec S1x64x64 32) (m1 : IVec S1x64x64 1) (w1 : IVec S1x64x64 32)
    (h : k1_pay32 (F := Ideal) (up3 V) (up3 L) c1_64 (up3 X) m0 w0 m1 w1 0#32 = up3 W) :
    k1_pay33 (F := Ideal) (up3 V) k1_pay6 (up3 L) c1_64 (up3 X) m0 w0 m1 w1 0#32 = up3 fun b => 1 + V b * W b := by
  refine up3_ext fun b i j => ?_
  unfold k1_pay33
  rw [h]
  pointwise [k1_pay6]
  simp (disch := omega) only [sel_eq, up3_ix, coe_one_zero, ← EReal.coe_mul, coe_sum, ← EReal.coe_add]
  congr 1
  simp only [Matrix.add_apply, Matrix.mul_apply, Matrix.one_apply, Fin.ext_iff]

theorem k1_col' (k : Fin 64) (M : MM) (h : ∀ b, 0 < M b k k) :
    k1_pay34 (F := Ideal) r1_64 c1_64 k (up3 M) = up3 fun b => cholStep k (M b) := by
  refine up3_ext fun b i j => ?_
  pointwise [k1_pay34]
  simp (disch := omega) only [iv_ofNat, sel_eq, sel_ge, up3_ix, sum_pick, Fin.eta, rsqrt_pos (h b)]
  simp only [cholStep, Fin.ext_iff, Fin.le_def]
  split_ifs <;> first | rfl | simp only [← EReal.coe_mul, ← EReal.coe_sub, sub_zero, zero_mul, mul_zero]

theorem k1_fold' {A G : MM} (h : ∀ b, IsChol (A b) (G b)) :
    Scf.fold (fun a x => k1_pay34 (F := Ideal) r1_64 c1_64 a x) (up3 A) = up3 G :=
  fold_chol (N := k1_t3_loop.trips) (n := 64) rfl h _ fun k M hM => k1_col' k M hM

theorem k1_bt {L : MM} (hl : ∀ b i j, i < j → L b i j = 0) (hp : ∀ b i, 0 < L b i i) (W : MM) :
    k1_pay56 (F := Ideal) (up3 W) (up3 L) (up3 fun b => (blk 32 (L b))⁻¹)
      (k1_pay51 (k1_pay48 r1_64) (k1_pay49 c1_64) (k1_pay50 c1_64)) (k1_pay52 r1_64) (k1_pay53 c1_64) (k1_pay54 c1_64) (k1_pay55 c1_64) 0#32
    = up3 fun b => (L b)⁻¹ * (W b)ᵀ := by
  refine up3_ext fun b i j => ?_
  pointwise [k1_pay56, k1_pay51, k1_pay48, k1_pay49, k1_pay50, k1_pay52, k1_pay53, k1_pay54, k1_pay55]
  simp (disch := omega) only [sign64, sign32, floor_div (d := 64#32) (.inr (.inr rfl)), floor_div (d := 32#32) (.inr (.inl rfl)), BitVec.toNat_ofNat, Nat.reducePow, Nat.reduceMod, sel_and, up3_ix]
  simp only [coe_one_zero, coe_ite_zero, ← EReal.coe_mul, coe_sum, ← EReal.coe_sub, mul_ite, mul_zero, inv_apply (hl b) (hp b)]
  congr 1

end Cert.Pay

end
-- ==== Proof.Pay.Inverse2.lean ====
/- What the second kernel's operations compute on real arrays: the triangles and the inverses of the blocks on their diagonals. -/
module

public import proofs.«01_k».proof.Proof.Pay.Factor1

@[expose] public section

set_option maxRecDepth 16384

noncomputable section

namespace Cert.Pay

open Cert.KernelIdeal Cert.KernelIdeal.Gen Cert.Arrow
open Idealize.ShloMosaic Matrix

local notation "MM" => Fin 16 → Matrix (Fin 64) (Fin 64) ℝ

theorem sign32' : Scalar.subi (1#32) (Scalar.extui (Scalar.cmpi .slt 32#32 0#32)) = 1#32 := by decide

theorem k1_tril (G : MM) (h : ∀ b i j, i < j → G b i j = 0) : k1_pay8 (F := Ideal) (up3 G) = up3 G := by
  refine up3_ext fun b i j => ?_
  pointwise [k1_pay8]
  simp (disch := omega) only [sel_ge, up3_ix]
  split_ifs with hij
  · rfl
  · rw [h b i j (not_le.mp hij)]; rfl

/-- A trip of the row loop of the prefix sums' factors. -/
theorem k1_row (L : MM) (k : Fin 16) (M : MM) (hl : ∀ b i j, i < j → L b i j = 0) (h : ∀ b i, L b i i ≠ 0) :
    k1_pay16 (F := Ideal) (up3 L) r1_64 k1_pay9 (k1_pay10 (up3 L)) (k1_pay11 r1_64) (k1_pay12 c1_64) (k1_pay13 c1_64) k1_pay14 k (up3 M)
    = up3 fun b => triStep (blk 16 (L b)) (fun i => L b i i) k (M b) := by
  refine up3_ext fun b i j => ?_
  pointwise [k1_pay16,k1_pay9,k1_pay10,k1_pay11,k1_pay12,k1_pay13,k1_pay14]
  simp (disch := omega) only [sign16, safe16, floor_div (d := 16#32) (.inl rfl), floor_mod, iv_ofNat, BitVec.toNat_ofNat, Nat.reducePow, Nat.reduceMod, sel_eq, sel_ge, up3_ix, sum_diag, le_refl, if_true]
  simp only [k1_tril L hl, up3_ix, coe_one_zero, coe_ite_zero, ← EReal.coe_mul, coe_sum, ← EReal.coe_sub]
  rw [div_real (h b i), coe_ite]
  congr 1
  unfold triStep blk
  simp only [Fin.ext_iff, ite_mul, zero_mul]

theorem k1_inv16 {L : MM} (hl : ∀ b i j, i < j → L b i j = 0) (hp : ∀ b i, 0 < L b i i) :
    Scf.fold (fun a x => k1_pay16 (F := Ideal) (up3 L) r1_64 k1_pay9 (k1_pay10 (up3 L)) (k1_pay11 r1_64) (k1_pay12 c1_64) (k1_pay13 c1_64) k1_pay14 a x) k1_pay15
    = up3 fun b => (blk 16 (L b))⁻¹ :=
  fold_tri (N := k1_t2_loop.trips) (n := 64) rfl hl hp _ (fun k M => k1_row L k M hl fun b i => (hp b i).ne') _
    (up3_ext fun b i j => by pointwise [k1_pay15]; rfl)

theorem k1_tril' (G : MM) (h : ∀ b i j, i < j → G b i j = 0) : k1_pay35 (F := Ideal) r1_64 c1_64 (up3 G) = up3 G := by
  refine up3_ext fun b i j => ?_
  pointwise [k1_pay35]
  simp (disch := omega) only [sel_ge, up3_ix]
  split_ifs with hij
  · rfl
  · rw [h b i j (not_le.mp hij)]; rfl

theorem k1_row' (L : MM) (k : Fin 16) (M : MM) (hl : ∀ b i j, i < j → L b i j = 0) (h : ∀ b i, L b i i ≠ 0) :
    k1_pay40 (F := Ideal) (up3 L) r1_64 c1_64 k1_pay36 (k1_pay37 r1_64 c1_64 (up3 L)) k1_pay38 k (up3 M)
    = up3 fun b => triStep (blk 16 (L b)) (fun i => L b i i) k (M b) := by
  refine up3_ext fun b i j => ?_
  pointwise [k1_pay40,k1_pay36,k1_pay37,k1_pay38]
  simp (disch := omega) only [sign16, safe16, floor_div (d := 16#32) (.inl rfl), floor_mod, iv_ofNat, BitVec.toNat_ofNat, Nat.reducePow, Nat.reduceMod, sel_eq, sel_ge, up3_ix, sum_diag, le_refl, if_true]
  simp only [k1_tril' L hl, up3_ix, coe_one_zero, coe_ite_zero, ← EReal.coe_mul, coe_sum, ← EReal.coe_sub]
  rw [div_real (h b i), coe_ite]
  congr 1
  unfold triStep blk
  simp only [Fin.ext_iff, ite_mul, zero_mul]

theorem k1_inv16' {L : MM} (hl : ∀ b i j, i < j → L b i j = 0) (hp : ∀ b i, 0 < L b i i) :
    Scf.fold (fun a x => k1_pay40 (F := Ideal) (up3 L) r1_64 c1_64 k1_pay36 (k1_pay37 r1_64 c1_64 (up3 L)) k1_pay38 a x) k1_pay39
    = up3 fun b => (blk 16 (L b))⁻¹ :=
  fold_tri (N := k1_t4_loop.trips) (n := 64) rfl hl hp _ (fun k M => k1_row' L k M hl fun b i => (hp b i).ne') _
    (up3_ext fun b i j => by pointwise [k1_pay39]; rfl)

theorem k1_inv32' {L : MM} (hl : ∀ b i j, i < j → L b i j = 0) (hp : ∀ b i, 0 < L b i i) :
    k1_pay47 (F := Ideal) (up3 fun b => (blk 16 (L b))⁻¹) (k1_pay46 (up3 L) r1_64 c1_64 (up3 fun b => (blk 16 (L b))⁻¹)
      (k1_pay43 r1_64 c1_64 (32#32) (k1_pay41 r1_64) (k1_pay42 r1_64) (1#32)) (16#32) (k1_pay44 r1_64) (k1_pay45 r1_64)) (constant S16x64x64 .f32 0x00000000#32)
    = up3 fun b => (blk 32 (L b))⁻¹ := by
  refine up3_ext fun b i j => ?_
  pointwise [k1_pay47, k1_pay46, k1_pay43, k1_pay41, k1_pay42, k1_pay44, k1_pay45]
  simp (disch := omega) only [sign16, sign32, sign32', floor_div (d := 16#32) (.inl rfl), floor_div (d := 32#32) (.inr (.inl rfl)), BitVec.toNat_ofNat, Nat.reducePow, Nat.reduceMod, sel_and, up3_ix]
  simp only [coe_one_zero, coe_ite_zero, ← EReal.coe_mul, coe_sum, ← EReal.coe_sub]
  congr 1
  rw [← blk_double (hl b) (hp b) 16]
  simp only [Matrix.sub_apply, Matrix.mul_apply, off, mul_ite, mul_zero]

end Cert.Pay

end
-- ==== Proof.Pay.Tail.lean ====
/- What the second kernel's last operations compute on real arrays: the output factors, transposed. -/
module

public import proofs.«01_k».proof.Proof.Gen.KernelIdeal.Skeleton
public import proofs.«01_k».proof.Proof.Arrow.Lift
public import proofs.«01_k».proof.Proof.Arrow.Input

@[expose] public section

set_option maxRecDepth 16384

noncomputable section

namespace Cert.Pay

open Cert.KernelIdeal Cert.KernelIdeal.Gen Cert.Arrow
open Idealize.ShloMosaic Matrix

/-- The identity's entries as the transposition builds them. -/
theorem one_word {i j : ℕ} (hi : i < 2 ^ 31) (hj : j < 2 ^ 31) :
    (FloatOps.sitofp (F := Ideal) FTy.f32 (BitVec.setWidth 32 (IntOp.cmpi .eq (IntOp.addi (BitVec.ofNat 32 i) 0#32) (BitVec.ofNat 32 j))) : EReal)
    = if i = j then 1 else 0 := by
  have e : IntOp.addi (BitVec.ofNat 32 i) 0#32 = BitVec.ofNat 32 i := by unfold IntOp.addi; simp
  rw [e, WordCmp.cmpi_eq_ofNat (by omega) (by omega)]
  by_cases h : i = j
  · simp [h, FloatOps.sitofp]
  · simp [h, FloatOps.sitofp]

theorem bd_entry (C : ℕ → Matrix (Fin 16) (Fin 16) ℝ) (n : Fin 16) (D : Matrix (Fin 64) (Fin 64) ℝ) (i j : Fin 64) :
    ∑ t : Fin 16, C (n.val * 4 + j.val / 16) ⟨j.val % 16, by omega⟩ t * D ⟨(n.val * 4 + j.val / 16) % 4 * 16 + t.val, by omega⟩ i = (bd C n.val * D)ᵀ i j := by
  rw [Matrix.transpose_apply, Matrix.mul_apply, bd_row]
  refine Finset.sum_congr rfl fun t _ => ?_
  have e1 : n.val * 4 + j.val / 16 = 4 * n.val + j.val / 16 := by omega
  exact congrArg₂ (· * ·) (congrArg (fun q => C q _ t) e1)
    (congrArg (fun r => D r i) (Fin.ext (show (n.val * 4 + j.val / 16) % 4 * 16 + t.val = j.val / 16 * 16 + t.val by omega)))

/-- The diagonal blocks times a stack, transposed. -/
theorem k1_et (C : ℕ → Matrix (Fin 16) (Fin 16) ℝ) (D : Fin 16 → Matrix (Fin 64) (Fin 64) ℝ) :
    k1_pay57 (F := Ideal) (up3 fun n : Fin 64 => C n.val) (up3 D) = up3 fun n => (bd C n.val * D n)ᵀ := by
  refine up3_ext fun n i j => ?_
  pointwise [k1_pay57]
  simp (disch := omega) only [one_word, mul_ite, mul_one, mul_zero, sum_pick, up3_ix]
  simp only [← EReal.coe_mul, coe_sum]
  exact congrArg _ (bd_entry C n (D n) i j)

theorem k1_ct (C : ℕ → Matrix (Fin 16) (Fin 16) ℝ) (D : Fin 16 → Matrix (Fin 64) (Fin 64) ℝ) :
    k1_pay58 (F := Ideal) (up3 fun n : Fin 64 => C n.val) (up3 D) = up3 fun n => (bd C n.val * D n)ᵀ := by
  refine up3_ext fun n i j => ?_
  pointwise [k1_pay58]
  simp (disch := omega) only [one_word, mul_ite, mul_one, mul_zero, sum_pick, up3_ix]
  simp only [← EReal.coe_mul, coe_sum]
  exact congrArg _ (bd_entry C n (D n) i j)

theorem k1_rt (U : ℕ → Fin 64 → ℝ) (X : Fin 16 → Matrix (Fin 64) (Fin 64) ℝ) :
    k1_pay1 (F := Ideal) (k1_pay5 (up2 (n := 1024) (Matrix.of fun r k => U r.val k))) (up3 X) (iota Kind.tc S64x64 32 [0] iota_S64x64_d0_w32)
    = up3 fun n => Matrix.of fun (i : Fin 128) j => if h : i.val < 64 then X n ⟨i.val, h⟩ j else U (64 * n.val + j.val) ⟨i.val - 64, by omega⟩ := by
  refine up3_ext fun n i j => ?_
  pointwise [k1_pay1, k1_pay5]
  simp (disch := omega) only [one_word, mul_ite, mul_one, mul_zero, sum_pick, up3_ix]
  rw [Matrix.of_apply]
  by_cases h : i.val < 64
  · rw [dif_pos h, dif_pos h]
  · rw [dif_neg h, dif_neg h]
    exact congrArg (fun r => ((U r ⟨i.val - 64, by omega⟩ : ℝ) : EReal)) (show n.val * 64 + j.val = 64 * n.val + j.val by omega)

end Cert.Pay

end
-- ==== Proof.Value.Region1.lean ====
/- What a point of the second region leaves in its outputs, on real inputs: the factor's blocks. -/
module

public import proofs.«01_k».proof.Proof.KernelIdealRun.Region1
public import proofs.«01_k».proof.Proof.Pay.Factor2
public import proofs.«01_k».proof.Proof.Pay.Inverse2
public import proofs.«01_k».proof.Proof.Pay.Tail
public import Idealize.ShloMosaic.Lib.Pipeline.ValueKit
public import Idealize.ShloMosaic.Lib.Pipeline.ReadBack

@[expose] public section

set_option maxRecDepth 16384

noncomputable section

namespace Cert.Pay

open Cert.KernelIdeal Cert.KernelIdeal.Gen Cert.KernelIdeal.Whole Cert.Arrow
open Idealize.ShloMosaic Idealize.ShloMosaic.TcCoe Idealize.ShloMosaic.Tactic Matrix
open Idealize.SL.Sem

theorem k1_cast2 (C : Fin 64 → Matrix (Fin 16) (Fin 16) ℝ) : k1_pay2 (F := Ideal) (up3 C) = up3 C := by
  refine up3_ext fun b i j => ?_
  pointwise [k1_pay2]
  rfl

theorem k1_cast3 (V : Fin 16 → Matrix (Fin 64) (Fin 64) ℝ) : k1_pay3 (F := Ideal) (up3 V) = up3 V := by
  refine up3_ext fun b i j => ?_
  pointwise [k1_pay3]
  rfl

theorem k1_cast4 (V : Fin 16 → Matrix (Fin 64) (Fin 64) ℝ) : k1_pay4 (F := Ideal) (up3 V) = up3 V := by
  refine up3_ext fun b i j => ?_
  pointwise [k1_pay4]
  rfl

/-- Blocks joined from a later start. -/
theorem bd_shift (C : ℕ → Matrix (Fin 16) (Fin 16) ℝ) (a n : ℕ) : bd (fun k => C (64 * a + k)) n = bd C (16 * a + n) := by
  unfold bd
  funext r s
  rw [show 4 * (16 * a + n) + r.val / 16 = 64 * a + (4 * n + r.val / 16) by omega]

variable (V : (c : Dev nD) → (b : Ref sig .tc) → Buf (Elt Ideal) ((c : Thread nD τ).loc b)) (c : Dev nD) (t : Fin cfg1.N) (p : Inp)

/-- What the point reads: its blocks of the diagonal factors, of the whitened blocks, of the prefix sums and of the rows. -/
structure Reads1 : Prop where
  h0 : iblk1 V c 0 t = up3 fun n : Fin 64 => p.C (64 * t.val + n.val)
  h1 : iblk1 V c 1 t = up3 fun n : Fin 16 => p.data.V (16 * t.val + n.val)
  h2 : iblk1 V c 2 t = up3 fun n : Fin 16 => p.data.T (16 * t.val + n.val)
  h3 : iblk1 V c 3 t = up2 (n := 1024) (Matrix.of fun r k => p.U (1024 * t.val + r.val) k)

theorem show_W : (up3 fun n : Fin 16 => ((chol (p.data.T (16 * t.val + n.val)))⁻¹)ᵀ * ((chol (p.data.T (16 * t.val + n.val)))⁻¹ * (p.data.V (16 * t.val + n.val))ᵀ))
    = up3 fun n : Fin 16 => p.data.W (16 * t.val + n.val) :=
  congrArg _ (funext fun n => (p.data.W_eq _).symm)

theorem show_S : (up3 fun n : Fin 16 => 1 + p.data.V (16 * t.val + n.val) * (((chol (p.data.T (16 * t.val + n.val)))⁻¹)ᵀ * ((chol (p.data.T (16 * t.val + n.val)))⁻¹ * (p.data.V (16 * t.val + n.val))ᵀ)))
    = up3 fun n : Fin 16 => p.data.S (16 * t.val + n.val) :=
  congrArg _ (funext fun n => by rw [← p.data.W_eq]; rfl)

variable {V c t p}

theorem value1_6 (h : Reads1 V c t p) : (outsAt1 V c t).2.2 = up3 fun n : Fin 16 => Matrix.of fun (i : Fin 128) (j : Fin 64) =>
    if hi : i.val < 64 then (p.data.K (16 * t.val + n.val) * p.data.V (16 * t.val + n.val))ᵀ ⟨i.val, hi⟩ j
    else (p.data.Y (16 * t.val + n.val))ᵀ ⟨i.val - 64, by omega⟩ j := by
  unfold outsAt1 out1_A_6; dsimp only
  frame_out
  rw [h.h0, h.h1, h.h3, k1_cast2, k1_cast3, k1_ct (fun k => p.C (64 * t.val + k)), k1_rt (fun r => p.U (1024 * t.val + r))]
  refine congrArg _ (funext fun n => ?_)
  ext i j
  simp only [Matrix.of_apply]
  by_cases hi : i.val < 64
  · rw [dif_pos hi, dif_pos hi, bd_shift]; rfl
  · rw [dif_neg hi, dif_neg hi, show 1024 * t.val + (64 * n.val + j.val) = 64 * (16 * t.val + n.val) + j.val by omega]; rfl

theorem value1_5 (h : Reads1 V c t p) : (outsAt1 V c t).2.1 = up3 fun n : Fin 16 => (p.data.Gbb (16 * t.val + n.val))ᵀ := by
  unfold outsAt1 out1_A_5; dsimp only
  frame_out
  have hT := fun n : Fin 16 => p.data.isChol_T (16 * t.val + n.val)
  have hl := fun n => (hT n).lower
  have hp := fun n => (hT n).pos
  have hS := fun n : Fin 16 => p.data.isChol_S (16 * t.val + n.val)
  have hl' := fun n => (hS n).lower
  rw [h.h0, h.h1, h.h2, k1_cast2, k1_cast3, k1_cast4, k1_fold hT, k1_tril _ hl, k1_inv16 hl hp, k1_inv32 hl hp, k1_s _ _ _ _ _ _ _ _ (k1_w hl hp _), show_S, k1_fold' hS, k1_tril' _ hl', k1_et (fun k => p.C (64 * t.val + k))]
  refine congrArg _ (funext fun n => ?_)
  rw [bd_shift]; rfl

theorem value1_4 (h : Reads1 V c t p) : (outsAt1 V c t).1 = up3 fun n : Fin 16 => (p.data.B (16 * t.val + n.val))ᵀ := by
  unfold outsAt1 out1_A_4; dsimp only
  frame_out
  have hT := fun n : Fin 16 => p.data.isChol_T (16 * t.val + n.val)
  have hl := fun n => (hT n).lower
  have hp := fun n => (hT n).pos
  have hS := fun n : Fin 16 => p.data.isChol_S (16 * t.val + n.val)
  have hl' := fun n => (hS n).lower
  have hp' := fun n => (hS n).pos
  rw [h.h1, h.h2, k1_cast3, k1_cast4, k1_fold hT, k1_tril _ hl, k1_inv16 hl hp, k1_inv32 hl hp, k1_s _ _ _ _ _ _ _ _ (k1_w hl hp _), k1_w hl hp, show_S, show_W, k1_fold' hS, k1_tril' _ hl', k1_inv16' hl' hp', k1_inv32' hl' hp', k1_bt hl' hp']
  refine congrArg _ (funext fun n => ?_)
  unfold Data.B
  rw [Matrix.transpose_mul, Matrix.transpose_transpose]

end Cert.Pay

end
-- ==== Proof.Value.Arrays.lean ====
/- The arrays the first two regions leave, as real matrices. -/
module

public import proofs.«01_k».proof.Proof.KernelIdealRun.Launch
public import proofs.«01_k».proof.Proof.Arrow.At
public import proofs.«01_k».proof.Proof.Value.Region0
public import proofs.«01_k».proof.Proof.Value.Region1

@[expose] public section

set_option maxRecDepth 16384

noncomputable section

namespace Cert.Pay

open Cert.KernelIdeal Cert.KernelIdeal.Gen Cert.KernelIdeal.Whole Cert.Arrow
open Idealize.ShloMosaic Idealize.ShloMosaic.TcCoe Idealize.ShloMosaic.Tactic Matrix
open Idealize.SL.Sem

theorem index0 : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0, 0] ∧ win0_6.index t = ![0, 0, 0] ∧ win0_7.index t = ![0, 0, 0] :=
  (by decide +kernel : ∀ t : Fin grid0.N, _)

theorem index1 : ∀ t : Fin cfg1.N, win1_0.index t = ![t.val, 0, 0] ∧ win1_1.index t = ![t.val, 0, 0] ∧ win1_2.index t = ![t.val, 0, 0]
    ∧ win1_3.index t = ![t.val, 0] ∧ win1_4.index t = ![t.val, 0, 0] ∧ win1_5.index t = ![t.val, 0, 0] ∧ win1_6.index t = ![t.val, 0, 0] :=
  (by decide +kernel : ∀ t : Fin grid1.N, _)

variable (m : (ℓ : Loc nD τ sig) → Buf (Elt Ideal) ℓ) (ρ : Dev nD → PrngReg) (c : Dev nD) (p : Inp) (E : Matrix (Fin 128) (Fin 8256) ℝ)

/-- The lower triangle of an array is a real matrix. -/
def TriIs (x : Vec Ideal S64x64 .f32) (L : Matrix (Fin 64) (Fin 64) ℝ) : Prop :=
  ∀ i j : Fin 64, (if j.val ≤ i.val then x (ix2 i j) else 0) = ((L i j : ℝ) : EReal)

/-- The arguments hold real entries wherever they are read. -/
structure Entries : Prop where
  lz : TriIs (m ((c : Thread nD τ).loc main_arg1)) p.Lz
  ly : TrilIs (m ((c : Thread nD τ).loc main_arg2)) p.Ly
  u : ∀ (n : Fin 512) (i : Fin 16) (k : Fin 64), m ((c : Thread nD τ).loc main_arg3) (ix3 n i k) = ((p.U (16 * n.val + i.val) k : ℝ) : EReal)
  e : ∀ (i : Fin 128) (l : Fin 8256), m ((c : Thread nD τ).loc main_arg4) (ix2 i l) = ((E i l : ℝ) : EReal)

variable {m c p E} (hm : Entries m c p E)

include hm

theorem host0 : W1 m ρ c (Proc.devRef .tc main_call0_v0) = up2 (n := 8192) (Matrix.of fun i k => p.U i.val k) := by
  refine up2_ext (n := 8192) (m := 64) fun i k => ?_
  simp only [W1, hostOps0]
  after_results
  refine (shapeCast_apply (m ((c : Thread nD τ).loc main_arg3)) shapeCasts_S512x16x64_S8192x64 (ix2 i k) (ix3 ⟨i.val / 16, by omega⟩ ⟨i.val % 16, by omega⟩ k) ?_).trans ?_
  · refine (Shape.rowMajor_val_three (ix3 (⟨i.val / 16, by omega⟩ : Fin 512) (⟨i.val % 16, by omega⟩ : Fin 16) k)).trans
      (Eq.trans ?_ (Shape.rowMajor_val_two (ix2 i k)).symm)
    show (i.val / 16 * 16 + i.val % 16) * 64 + k.val = i.val * 64 + k.val
    omega
  · rw [hm.u]
    show ((p.U (16 * (i.val / 16) + i.val % 16) k : ℝ) : EReal) = ((p.U i.val k : ℝ) : EReal)
    rw [Nat.div_add_mod]

theorem read0_0 (t : Fin cfg0.N) : k0_pay2 (iblk0 (V1 m ρ) c 0 t) = up2 p.Lz := by
  refine up2_ext (n := 64) (m := 64) fun i j => ?_
  have e := (index0 t).1
  have hb : ∀ i j : Fin 64, (iblk0 (V1 m ρ) c 0 t : Vec Ideal S64x64 .f32) (ix2 i j) = (m ((c : Thread nD τ).loc main_arg1) : Vec Ideal S64x64 .f32) (ix2 i j) := by
    intro i j
    have hA : V1 m ρ c main_arg1 = m ((c : Thread nD τ).loc main_arg1) := W1_args m ρ c main_arg1 (by decide)
    blk_simp [iblk0, e]
    rw [hA]
    refine congrArg _ (funext fun a => Fin.ext ?_)
    match a with
    | ⟨0, _⟩ => blk_simp [e]; try rfl
    | ⟨1, _⟩ => blk_simp [e]; try rfl
  refine Eq.trans ?_ (hm.lz i j)
  rw [← hb]
  pointwise [k0_pay2]
  exact sel_ge (by omega) (by omega) _ _

theorem read0_1 (t : Fin cfg0.N) : TrilIs (iblk0 (V1 m ρ) c 1 t) p.Ly := by
  have e := (index0 t).2.1
  intro b i j
  have hA : V1 m ρ c main_arg2 = m ((c : Thread nD τ).loc main_arg2) := W1_args m ρ c main_arg2 (by decide)
  have hb : (iblk0 (V1 m ρ) c 1 t : Vec Ideal S512x16x16 .f32) (ix3 b i j) = (m ((c : Thread nD τ).loc main_arg2) : Vec Ideal S512x16x16 .f32) (ix3 b i j) := by
    blk_simp [iblk0, e]
    rw [hA]
    refine congrArg _ (funext fun a => Fin.ext ?_)
    match a with
    | ⟨0, _⟩ => blk_simp [e]; try rfl
    | ⟨1, _⟩ => blk_simp [e]; try rfl
    | ⟨2, _⟩ => blk_simp [e]; try rfl
  rw [hb]
  exact hm.ly b i j

theorem read0_2 (t : Fin cfg0.N) : iblk0 (V1 m ρ) c 2 t = up2 (n := 8192) (Matrix.of fun i k => p.U i.val k) := by
  have e := (index0 t).2.2.1
  have hA : V1 m ρ c main_call0_v0 = _ := host0 ρ hm
  refine up2_ext (n := 8192) (m := 64) fun i j => ?_
  blk_simp [iblk0, e]
  rw [hA]
  refine up2_at _ _ i j ?_ ?_ <;> blk_simp [e] <;> try rfl

theorem arr0_3 : (dat0 (V1 m ρ) c).arrAt 3 cfg0.N = up2 p.data.Gzᵀ := by
  refine (dat0 (V1 m ρ) c).arrAt_eq_of_covers 3 _ (by decide +kernel) fun t hf y => ?_
  have e := (index0 t).2.2.2.1
  blk_simp
  rw [after0_3, value0_3 _ _ _ _ (read0_0 ρ hm t)]
  refine (up2_at _ ((win0_3.blk t).view.emb y) (y 0) (y 1) ?_ ?_).symm <;> blk_simp [e] <;> try rfl

theorem arr0_4 : (dat0 (V1 m ρ) c).arrAt 4 cfg0.N = up2 (p.data.Gz⁻¹ * p.Lz) := by
  refine (dat0 (V1 m ρ) c).arrAt_eq_of_covers 4 _ (by decide +kernel) fun t hf y => ?_
  have e := (index0 t).2.2.2.2.1
  blk_simp
  rw [after0_4, value0_4 _ _ _ _ (read0_0 ρ hm t)]
  refine (up2_at _ ((win0_4.blk t).view.emb y) (y 0) (y 1) ?_ ?_).symm <;> blk_simp [e] <;> try rfl

theorem arr0_5 : (dat0 (V1 m ρ) c).arrAt 5 cfg0.N = up3 fun b : Fin 512 => p.C b.val := by
  refine (dat0 (V1 m ρ) c).arrAt_eq_of_covers 5 _ (by decide +kernel) fun t hf y => ?_
  have e := (index0 t).2.2.2.2.2.1
  blk_simp
  rw [after0_5, value0_5 _ _ _ _ (read0_1 ρ hm t)]
  refine (up3_at p.C ((win0_5.blk t).view.emb y) (y 0).val (y 1) (y 2) ?_ ?_ ?_).symm <;> blk_simp [e] <;> try rfl

theorem arr0_6 : (dat0 (V1 m ρ) c).arrAt 6 cfg0.N = up3 fun b : Fin 128 => p.data.V b.val := by
  refine (dat0 (V1 m ρ) c).arrAt_eq_of_covers 6 _ (by decide +kernel) fun t hf y => ?_
  have e := (index0 t).2.2.2.2.2.2.1
  blk_simp
  rw [after0_6, value0_6 _ _ _ _ (read0_0 ρ hm t) (read0_1 ρ hm t) (read0_2 ρ hm t)]
  refine (up3_at p.data.V ((win0_6.blk t).view.emb y) (y 0).val (y 1) (y 2) ?_ ?_ ?_).symm <;> blk_simp [e] <;> try rfl

theorem arr0_7 : (dat0 (V1 m ρ) c).arrAt 7 cfg0.N = up3 fun b : Fin 128 => p.data.T b.val := by
  refine (dat0 (V1 m ρ) c).arrAt_eq_of_covers 7 _ (by decide +kernel) fun t hf y => ?_
  have e := (index0 t).2.2.2.2.2.2.2
  blk_simp
  rw [after0_7, value0_7 _ _ _ _ (read0_0 ρ hm t) (read0_1 ρ hm t) (read0_2 ρ hm t)]
  refine (up3_at p.data.T ((win0_7.blk t).view.emb y) (y 0).val (y 1) (y 2) ?_ ?_ ?_).symm <;> blk_simp [e] <;> try rfl

theorem reads1 (t : Fin cfg1.N) : Reads1 (V2 m ρ) c t p where
  h0 := by
    have e := (index1 t).1
    have hA : V2 m ρ c main_call0_v1_2 = up3 fun b : Fin 512 => p.C b.val := (W2_arr m ρ c 5).trans (arr0_5 ρ hm)
    refine up3_ext fun n i j => ?_
    blk_simp [iblk1, e]
    rw [hA]
    refine up3_at p.C _ _ i j ?_ ?_ ?_ <;> blk_simp [e] <;> omega
  h1 := by
    have e := (index1 t).2.1
    have hA : V2 m ρ c main_call0_v1_3 = up3 fun b : Fin 128 => p.data.V b.val := (W2_arr m ρ c 6).trans (arr0_6 ρ hm)
    refine up3_ext fun n i j => ?_
    blk_simp [iblk1, e]
    rw [hA]
    refine up3_at p.data.V _ _ i j ?_ ?_ ?_ <;> blk_simp [e] <;> omega
  h2 := by
    have e := (index1 t).2.2.1
    have hA : V2 m ρ c main_call0_v1_4 = up3 fun b : Fin 128 => p.data.T b.val := (W2_arr m ρ c 7).trans (arr0_7 ρ hm)
    refine up3_ext fun n i j => ?_
    blk_simp [iblk1, e]
    rw [hA]
    refine up3_at p.data.T _ _ i j ?_ ?_ ?_ <;> blk_simp [e] <;> omega
  h3 := by
    have e := (index1 t).2.2.2.1
    have hA : V2 m ρ c main_call0_v0 = up2 (n := 8192) (Matrix.of fun i k => p.U i.val k) :=
      (W2_of m ρ c main_call0_v0 (by decide)).trans (host0 ρ hm)
    refine up2_ext (n := 1024) (m := 64) fun i j => ?_
    have hN : t.val < 8 := t.isLt
    blk_simp [iblk1, e]
    rw [hA]
    refine (up2_at _ _ (⟨1024 * t.val + i.val, by omega⟩ : Fin 8192) j ?_ ?_).trans rfl <;> blk_simp [e] <;> (try show _ = 1024 * t.val + i.val) <;> omega

theorem arr1_4 : (dat1 (V2 m ρ) c).arrAt 4 cfg1.N = up3 fun b : Fin 128 => (p.data.B b.val)ᵀ := by
  refine (dat1 (V2 m ρ) c).arrAt_eq_of_covers 4 _ (by decide +kernel) fun t hf y => ?_
  have e := (index1 t).2.2.2.2.1
  blk_simp
  rw [after1_4, value1_4 (reads1 ρ hm t)]
  refine (up3_at (fun b => (p.data.B b)ᵀ) ((win1_4.blk t).view.emb y) (16 * t.val + (y 0).val) (y 1) (y 2) ?_ ?_ ?_).symm <;> blk_simp [e] <;> omega

theorem arr1_5 : (dat1 (V2 m ρ) c).arrAt 5 cfg1.N = up3 fun b : Fin 128 => (p.data.Gbb b.val)ᵀ := by
  refine (dat1 (V2 m ρ) c).arrAt_eq_of_covers 5 _ (by decide +kernel) fun t hf y => ?_
  have e := (index1 t).2.2.2.2.2.1
  blk_simp
  rw [after1_5, value1_5 (reads1 ρ hm t)]
  refine (up3_at (fun b => (p.data.Gbb b)ᵀ) ((win1_5.blk t).view.emb y) (16 * t.val + (y 0).val) (y 1) (y 2) ?_ ?_ ?_).symm <;> blk_simp [e] <;> omega

omit hm in
/-- The two right factors of a block's output, stacked. -/
def pair (p : Inp) (b : ℕ) : Matrix (Fin 128) (Fin 64) ℝ := Matrix.of fun i j =>
  if hi : i.val < 64 then (p.data.K b * p.data.V b)ᵀ ⟨i.val, hi⟩ j else (p.data.Y b)ᵀ ⟨i.val - 64, by omega⟩ j

theorem arr1_6 : (dat1 (V2 m ρ) c).arrAt 6 cfg1.N = up3 fun b : Fin 128 => pair p b.val := by
  refine (dat1 (V2 m ρ) c).arrAt_eq_of_covers 6 _ (by decide +kernel) fun t hf y => ?_
  have e := (index1 t).2.2.2.2.2.2
  blk_simp
  rw [after1_6, value1_6 (reads1 ρ hm t)]
  refine (up3_at (pair p) ((win1_6.blk t).view.emb y) (16 * t.val + (y 0).val) (y 1) (y 2) ?_ ?_ ?_).symm <;> blk_simp [e] <;> omega

end Cert.Pay

end
-- ==== Proof.Pay.Apply.lean ====
/- What the third kernel's operations compute: a step of the carry and a block of the output, on real factors and any mean. -/
module

public import proofs.«01_k».proof.Proof.Gen.KernelIdeal.Skeleton
public import proofs.«01_k».proof.Proof.Arrow.Lift
public import Idealize.ShloMosaic.Lib.Pipeline.ValueKit

@[expose] public section

set_option maxRecDepth 16384

noncomputable section

namespace Cert.Pay

open Cert.KernelIdeal Cert.KernelIdeal.Gen Cert.Arrow
open Idealize.ShloMosaic Matrix

/-! ## The operations of the eight blocks are the same two -/

section Same
variable (x p z : Vec Ideal S64x64 .f32) (B E : Vec Ideal S1x64x64 .f32) (R : Vec Ideal S1x128x64 .f32) (m : Vec Ideal S1x64 .f32)

theorem c0 : k2_pay9 (k2_pay8 x p B) = k2_pay12 x p B := rfl
theorem c2 : k2_pay16 (k2_pay13 x) p B = k2_pay12 x p B := rfl
theorem c3 : k2_pay22 (k2_pay17 x) p B = k2_pay12 x p B := rfl
theorem c4 : k2_pay25 (k2_pay23 x) p B = k2_pay12 x p B := rfl
theorem c5 : k2_pay28 x p B = k2_pay12 x p B := rfl
theorem c6 : k2_pay31 x p B = k2_pay12 x p B := rfl
theorem c7 : k2_pay2 (k2_pay32 x) p B = k2_pay12 x p B := rfl

theorem y0 (u v : Vec Ideal S64x64 .f32) : k2_pay7 u v x p E R m = k2_pay11 (k2_pay5 u v) x p E R m := rfl
theorem y2 : k2_pay15 (k2_pay13 x) (k2_pay14 z p) E R m = k2_pay11 z x p E R m := rfl
theorem y3 : k2_pay21 (k2_pay18 z p) (k2_pay19 x E) (k2_pay20 R) (constant S64x64 .f32 0x00000000#32) m = k2_pay11 z x p E R m := rfl
theorem y4 : k2_pay24 z x p E R m = k2_pay11 z x p E R m := rfl
theorem y5 : k2_pay27 z x p E R m = k2_pay11 z x p E R m := rfl
theorem y6 : k2_pay30 z x p E R m = k2_pay11 z x p E R m := rfl
theorem y7 : k2_pay1 (k2_pay32 x) (k2_pay33 z p) (k2_pay34 E) R m = k2_pay11 z x p E R m := rfl

end Same

/-! ## What they compute -/

theorem k2_block (X : Matrix (Fin 64) (Fin 64) ℝ) : k2_pay10 (F := Ideal) (up2 X) = up2 X := by
  refine up2_ext fun i j => ?_
  pointwise [k2_pay10]
  rfl

theorem k2_carry (X P : Matrix (Fin 64) (Fin 64) ℝ) (B : Fin 1 → Matrix (Fin 64) (Fin 64) ℝ) :
    k2_pay12 (F := Ideal) (up2 X) (up2 P) (up3 B) = up2 (P + X * B 0) := by
  refine up2_ext fun i j => ?_
  pointwise [k2_pay12]
  simp only [k2_block, up2_ix, up3_ix, ← EReal.coe_mul, coe_sum, ← EReal.coe_add, Matrix.add_apply, Matrix.mul_apply]

theorem k2_zero : k2_pay4 (F := Ideal) = up2 0 := by
  refine up2_ext fun i j => ?_
  pointwise [k2_pay4]
  rfl

theorem k2_id (X : Matrix (Fin 64) (Fin 64) ℝ) : k2_pay6 (F := Ideal) (up2 X) = up2 X := by
  refine up2_ext fun i j => ?_
  pointwise [k2_pay6]
  rfl

theorem k2_fz (X Y : Matrix (Fin 64) (Fin 64) ℝ) : k2_pay5 (F := Ideal) (up2 X) (up2 Y) = up2 (X * Y) := by
  refine up2_ext fun i j => ?_
  pointwise [k2_pay5]
  simp only [up2_ix, ← EReal.coe_mul, coe_sum, Matrix.mul_apply]

theorem k2_outz (m : Vec Ideal S1x64 .f32) (X Y : Matrix (Fin 64) (Fin 64) ℝ) (i j : Fin 64) :
    k2_pay3 (F := Ideal) m (up2 X) (up2 Y) (ix2 i j) = m (ix2 0 j) + (((X * Y) i j : ℝ) : EReal) := by
  pointwise [k2_pay3]
  simp only [up2_ix, ← EReal.coe_mul, coe_sum, Matrix.mul_apply]

theorem k2_y (Z X P : Matrix (Fin 64) (Fin 64) ℝ) (E : Fin 1 → Matrix (Fin 64) (Fin 64) ℝ) (R : Fin 1 → Matrix (Fin 128) (Fin 64) ℝ)
    (m : Vec Ideal S1x64 .f32) (i j : Fin 64) :
    k2_pay11 (F := Ideal) (up2 Z) (up2 X) (up2 P) (up3 E) (up3 R) m (ix2 i j)
    = (((X * E 0) i j + (∑ k : Fin 64, P i k * R 0 ⟨k.val, by omega⟩ j + ∑ k : Fin 64, Z i k * R 0 ⟨64 + k.val, by omega⟩ j) : ℝ) : EReal) + m (ix2 0 j) := by
  pointwise [k2_pay11]
  simp only [k2_block, up2_ix, up3_ix, ← EReal.coe_mul, coe_sum, ← EReal.coe_add, Matrix.mul_apply]

/-! ## The loads of the blocks -/

theorem ld2 {n N : ℕ} (M : Matrix (Fin 64) (Fin N) ℝ) (o : ℕ) (inb) (h : o + n ≤ N) :
    View.ld (Val := Elt Ideal) (e' := .f32) (up2 M) (Rect.unit (s := ⟨2, ![64, N]⟩) ![0, o] ![64, n] inb) = up2 (Matrix.of fun i (j : Fin n) => M i ⟨o + j.val, by omega⟩) := by
  refine up2_ext fun i j => ?_
  refine (View.ld_unit_apply_of (Val := Elt Ideal) (e := .f32) _ _ _ inb (ix2 i j) (ix2 i ⟨o + j.val, by omega⟩) fun a => ?_).trans ?_
  · match a with
    | ⟨0, _⟩ => show i.val = 0 + i.val; omega
    | ⟨1, _⟩ => rfl
  · rfl

theorem ld3 {B n m : ℕ} (M : Fin B → Matrix (Fin n) (Fin m) ℝ) (k : ℕ) (inb) (h : k < B) :
    View.ld (Val := Elt Ideal) (e' := .f32) (up3 M) (Rect.unit (s := ⟨3, ![B, n, m]⟩) ![k, 0, 0] ![1, n, m] inb) = up3 fun _ => M ⟨k, h⟩ := by
  refine up3_ext fun b i j => ?_
  refine (View.ld_unit_apply_of (Val := Elt Ideal) (e := .f32) _ _ _ inb (ix3 b i j) (ix3 ⟨k, h⟩ i j) fun a => ?_).trans ?_
  · match a with
    | ⟨0, _⟩ => show k = k + b.val; omega
    | ⟨1, _⟩ => show i.val = 0 + i.val; omega
    | ⟨2, _⟩ => show j.val = 0 + j.val; omega
  · rfl

/-- A row of the mean's block. -/
theorem ld_row (x : Vec Ideal S8x64 .f32) (k : ℕ) (inb) (h : k < 8) (j : Fin 64) :
    View.ld (Val := Elt Ideal) (e' := .f32) x (Rect.unit (s := S8x64) ![k, 0] ![1, 64] inb) (ix2 0 j) = x (ix2 ⟨k, h⟩ j) := by
  refine (View.ld_unit_apply_of (Val := Elt Ideal) (e := .f32) _ _ _ inb (ix2 0 j) (ix2 ⟨k, h⟩ j) fun a => ?_)
  match a with
  | ⟨0, _⟩ => show k = k + 0; omega
  | ⟨1, _⟩ => show j.val = 0 + j.val; omega

end Cert.Pay

end
-- ==== Proof.Value.Region2.lean ====
/- What a point of the third region leaves in its outputs and in the carry, on real factors and any mean. -/
module

public import proofs.«01_k».proof.Proof.KernelIdealRun.Region2
public import proofs.«01_k».proof.Proof.Pay.Apply
public import proofs.«01_k».proof.Proof.Arrow.Input
public import Idealize.ShloMosaic.Lib.Pipeline.ValueKit
public import Idealize.ShloMosaic.Lib.Pipeline.ReadBack

@[expose] public section

set_option maxRecDepth 16384

noncomputable section

namespace Cert.Pay

open Cert.KernelIdeal Cert.KernelIdeal.Gen Cert.KernelIdeal.Whole Cert.Arrow
open Idealize.ShloMosaic Idealize.ShloMosaic.TcCoe Idealize.ShloMosaic.Tactic Matrix
open Idealize.SL.Sem

/-- The carry before block `b`. -/
def carryTo (p : Inp) (x : ℕ → Matrix (Fin 64) (Fin 64) ℝ) (b : ℕ) : Matrix (Fin 64) (Fin 64) ℝ := ∑ a ∈ Finset.range b, x a * (p.data.B a)ᵀ

/-- A block of the output without the mean. -/
def outBlock (p : Inp) (z : Matrix (Fin 64) (Fin 64) ℝ) (x : ℕ → Matrix (Fin 64) (Fin 64) ℝ) (b : ℕ) : Matrix (Fin 64) (Fin 64) ℝ :=
  x b * (p.data.Gbb b)ᵀ + (carryTo p x b * (p.data.K b * p.data.V b)ᵀ + z * (p.data.Gz⁻¹ * p.Lz) * (p.data.Y b)ᵀ)

/-- The two right factors of a block's output, stacked. -/
def stack (p : Inp) (b : ℕ) : Matrix (Fin 128) (Fin 64) ℝ := Matrix.of fun i j =>
  if hi : i.val < 64 then (p.data.K b * p.data.V b)ᵀ ⟨i.val, hi⟩ j else (p.data.Y b)ᵀ ⟨i.val - 64, by omega⟩ j

section Steps

variable (p : Inp) (z : Matrix (Fin 64) (Fin 64) ℝ) (x : ℕ → Matrix (Fin 64) (Fin 64) ℝ) (j : ℕ)

/-- A point's eight blocks of normals, side by side. -/
def wide : Matrix (Fin 64) (Fin 512) ℝ := Matrix.of fun r q => x (8 * j + q.val / 64) r ⟨q.val % 64, Nat.mod_lt _ (by omega)⟩

theorem ld_wide (o k : ℕ) (ho : o = 64 * k) (hk : k < 8) (inb) :
    View.ld (Val := Elt Ideal) (e' := .f32) (up2 (wide x j)) (Rect.unit (s := ⟨2, ![64, 512]⟩) ![0, o] ![64, 64] inb) = up2 (x (8 * j + k)) := by
  rw [ld2 (n := 64) (N := 512) (wide x j) o inb (by omega)]
  refine congrArg _ ?_
  ext r q
  have e1 : (o + q.val) / 64 = k := by omega
  have e2 : (o + q.val) % 64 = q.val := by omega
  exact congrArg₂ (fun a (q : Fin 64) => x (8 * j + a) r q) e1 (Fin.ext e2)

theorem carry_step {o k : ℕ} {inb inb'} (ho : o = 64 * k) (hk : k < 8) {P : Vec Ideal S64x64 .f32} (hP : P = up2 (carryTo p x (8 * j + k))) :
    k2_pay12 (F := Ideal) (View.ld (Val := Elt Ideal) (e' := .f32) (up2 (wide x j)) (Rect.unit (s := ⟨2, ![64, 512]⟩) ![0, o] ![64, 64] inb))
      P
      (View.ld (Val := Elt Ideal) (e' := .f32) (up3 fun b : Fin 8 => (p.data.B (8 * j + b.val))ᵀ) (Rect.unit (s := ⟨3, ![8, 64, 64]⟩) ![k, 0, 0] ![1, 64, 64] inb'))
    = up2 (carryTo p x (8 * j + (k + 1))) := by
  rw [hP, ld_wide x j o k ho hk inb, ld3 _ k inb' hk, k2_carry, ← Nat.add_assoc]
  unfold carryTo
  rw [Finset.sum_range_succ]

theorem out_step {o k : ℕ} (ho : o = 64 * k) (hk : k < 8) {inb inb' inb3 inb4} (m : Vec Ideal S8x64 .f32) (r s : Fin 64)
    {P Z : Vec Ideal S64x64 .f32} (hP : P = up2 (carryTo p x (8 * j + k))) (hZ : Z = up2 (z * (p.data.Gz⁻¹ * p.Lz))) :
    k2_pay11 (F := Ideal) Z
      (View.ld (Val := Elt Ideal) (e' := .f32) (up2 (wide x j)) (Rect.unit (s := ⟨2, ![64, 512]⟩) ![0, o] ![64, 64] inb))
      P
      (View.ld (Val := Elt Ideal) (e' := .f32) (up3 fun b : Fin 8 => (p.data.Gbb (8 * j + b.val))ᵀ) (Rect.unit (s := ⟨3, ![8, 64, 64]⟩) ![k, 0, 0] ![1, 64, 64] inb'))
      (View.ld (Val := Elt Ideal) (e' := .f32) (up3 fun b : Fin 8 => stack p (8 * j + b.val)) (Rect.unit (s := ⟨3, ![8, 128, 64]⟩) ![k, 0, 0] ![1, 128, 64] inb3))
      (View.ld (Val := Elt Ideal) (e' := .f32) m (Rect.unit (s := S8x64) ![k, 0] ![1, 64] inb4)) (ix2 r s)
    = ((outBlock p z x (8 * j + k) r s : ℝ) : EReal) + m (ix2 ⟨k, hk⟩ s) := by
  rw [hP, hZ, ld_wide x j o k ho hk inb, ld3 _ k inb' hk, ld3 _ k inb3 hk, k2_y, ld_row m k inb4 hk]
  congr 2

theorem out_piece {o k : ℕ} (ho : o = 64 * k) (hk : k < 8) {inb inb' inb3 inb4} (m : Vec Ideal S8x64 .f32)
    {P Z : Vec Ideal S64x64 .f32} (hP : P = up2 (carryTo p x (8 * j + k))) (hZ : Z = up2 (z * (p.data.Gz⁻¹ * p.Lz)))
    {y : S64x64.Idx} {r s : Fin 64} {k' : Fin 8} (h0 : r.val = (y 0).val) (h1 : 64 * k'.val + s.val = o + (y 1).val) :
    k2_pay11 (F := Ideal) Z
      (View.ld (Val := Elt Ideal) (e' := .f32) (up2 (wide x j)) (Rect.unit (s := ⟨2, ![64, 512]⟩) ![0, o] ![64, 64] inb))
      P
      (View.ld (Val := Elt Ideal) (e' := .f32) (up3 fun b : Fin 8 => (p.data.Gbb (8 * j + b.val))ᵀ) (Rect.unit (s := ⟨3, ![8, 64, 64]⟩) ![k, 0, 0] ![1, 64, 64] inb'))
      (View.ld (Val := Elt Ideal) (e' := .f32) (up3 fun b : Fin 8 => stack p (8 * j + b.val)) (Rect.unit (s := ⟨3, ![8, 128, 64]⟩) ![k, 0, 0] ![1, 128, 64] inb3))
      (View.ld (Val := Elt Ideal) (e' := .f32) m (Rect.unit (s := S8x64) ![k, 0] ![1, 64] inb4)) y
    = ((outBlock p z x (8 * j + k'.val) r s : ℝ) : EReal) + m (ix2 k' s) := by
  have hy : (y 1).val < 64 := (y 1).isLt
  have hk' : k' = ⟨k, hk⟩ := Fin.ext (show k'.val = k by omega)
  have e : y = ix2 r s := by
    funext a
    match a with
    | ⟨0, _⟩ => exact Fin.ext h0.symm
    | ⟨1, _⟩ => exact Fin.ext (show (y 1).val = s.val by omega)
  rw [e, hk']
  exact out_step p z x j ho hk m r s hP hZ

end Steps

variable (V : (c : Dev nD) → (b : Ref sig .tc) → Buf (Elt Ideal) ((c : Thread nD τ).loc b)) (c : Dev nD) (t : Fin cfg2.N)
  (p : Inp) (z : Matrix (Fin 64) (Fin 64) ℝ) (x : ℕ → Matrix (Fin 64) (Fin 64) ℝ)

/-- What the point reads: its normals and the factors. -/
structure Reads2 : Prop where
  h0 : iblk2 V c 0 t = up2 z
  h1 : iblk2 V c 1 t = up2 (wide x (t.val % 16))
  h4 : iblk2 V c 4 t = up2 p.data.Gzᵀ
  h5 : iblk2 V c 5 t = up2 (p.data.Gz⁻¹ * p.Lz)
  h6 : iblk2 V c 6 t = up3 fun b : Fin 8 => (p.data.B (8 * (t.val % 16) + b.val))ᵀ
  h7 : iblk2 V c 7 t = up3 fun b : Fin 8 => (p.data.Gbb (8 * (t.val % 16) + b.val))ᵀ
  h8 : iblk2 V c 8 t = up3 fun b : Fin 8 => stack p (8 * (t.val % 16) + b.val)

variable {V c t p z x}

theorem value2_B_carry (h : Reads2 V c t p z x) (h0) (q : Vec Ideal S64x64 .f32 × Vec Ideal S64x512 .f32 × Vec Ideal S64x64 .f32)
    (hq : q.2.2 = up2 (carryTo p x (8 * (t.val % 16)))) :
    (outB2 V c t h0 q).2.2 = up2 (carryTo p x (8 * (t.val % 16) + 8)) := by
  unfold outB2 runB2 kernelRun2_B; dsimp only
  frame_out
  simp only [read_unread_whole]
  rw [h.h1, h.h6]
  simp only [c0, c2, c3, c4, c5, c6, c7]
  repeat (first | exact hq | refine carry_step p x _ (by omega) (by omega) ?_)

theorem carry_zero (h0 : t.val % 16 = 0) : k2_pay4 (F := Ideal) = up2 (carryTo p x (8 * (t.val % 16))) := by
  rw [h0, k2_zero]; rfl

theorem value2_A_carry (h : Reads2 V c t p z x) (h0) :
    (outA2 V c t h0).2.2 = up2 (carryTo p x (8 * (t.val % 16) + 8)) := by
  unfold outA2 runA2 kernelRun2_A; dsimp only
  frame_out
  rw [h.h1, h.h6]
  simp only [c0, c2, c3, c4, c5, c6, c7]
  repeat (first | exact carry_zero h0 | refine carry_step p x _ (by omega) (by omega) ?_)

theorem value2_A_z (h : Reads2 V c t p z x) (h0) (m : Vec Ideal S1x64 .f32) (hm : iblk2 V c 2 t = m) (r s : Fin 64) :
    (outA2 V c t h0).1 (ix2 r s) = m (ix2 0 s) + (((z * p.data.Gzᵀ) r s : ℝ) : EReal) := by
  unfold outA2 runA2 kernelRun2_A; dsimp only
  frame_out
  rw [h.h0, h.h4, hm, k2_outz]

theorem fz_eq (h : Reads2 V c t p z x) : k2_pay5 (F := Ideal) (iblk2 V c 0 t) (iblk2 V c 5 t) = up2 (z * (p.data.Gz⁻¹ * p.Lz)) := by
  rw [h.h0, h.h5, k2_fz]

set_option maxHeartbeats 1000000 in
theorem value2_B_y (h : Reads2 V c t p z x) (h0) (q : Vec Ideal S64x64 .f32 × Vec Ideal S64x512 .f32 × Vec Ideal S64x64 .f32)
    (hq : q.2.2 = up2 (carryTo p x (8 * (t.val % 16)))) (k : Fin 8) (r s : Fin 64) :
    (outB2 V c t h0 q).2.1 (ix2 r ⟨64 * k.val + s.val, by omega⟩) = ((outBlock p z x (8 * (t.val % 16) + k.val) r s : ℝ) : EReal) + (iblk2 V c 3 t : Vec Ideal S8x64 .f32) (ix2 k s) := by
  have hZ := fz_eq h
  unfold outB2 runB2 kernelRun2_B; dsimp only
  frame_out
  canon_tiles y hy
  all_goals
    simp only [read_unread_whole]
    simp only [c0, c2, c3, c4, c5, c6, c7, y0, y2, y3, y4, y5, y6, y7]
    simp only [h.h1, h.h6, h.h7, h.h8]
    refine out_piece p z x _ (by omega) (by omega) _ ?_ hZ hy0 (by first | exact hy1 | exact hy1.trans (Nat.zero_add _).symm)
    repeat (first | exact hq | refine carry_step p x _ (by omega) (by omega) ?_)

set_option maxHeartbeats 1000000 in
theorem value2_A_y (h : Reads2 V c t p z x) (h0) (k : Fin 8) (r s : Fin 64) :
    (outA2 V c t h0).2.1 (ix2 r ⟨64 * k.val + s.val, by omega⟩) = ((outBlock p z x (8 * (t.val % 16) + k.val) r s : ℝ) : EReal) + (iblk2 V c 3 t : Vec Ideal S8x64 .f32) (ix2 k s) := by
  have hZ := fz_eq h
  unfold outA2 runA2 kernelRun2_A; dsimp only
  frame_out
  canon_tiles y hy
  all_goals
    simp only [c0, c2, c3, c4, c5, c6, c7, y0, y2, y3, y4, y5, y6, y7]
    simp only [h.h1, h.h6, h.h7, h.h8]
    refine out_piece p z x _ (by omega) (by omega) _ ?_ hZ hy0 (by first | exact hy1 | exact hy1.trans (Nat.zero_add _).symm)
    repeat (first | exact carry_zero h0 | refine carry_step p x _ (by omega) (by omega) ?_)

variable {zz : ℕ → Matrix (Fin 64) (Fin 64) ℝ} {xx : ℕ → ℕ → Matrix (Fin 64) (Fin 64) ℝ}

theorem div_pred {n : ℕ} (h : ¬n % 16 = 0) : (n - 1) / 16 = n / 16 := by omega
theorem mod_pred {n : ℕ} (h : ¬n % 16 = 0) : 8 * ((n - 1) % 16) + 8 = 8 * (n % 16) := by omega

/-- The carry after every point. -/
theorem value2_carry (h : ∀ t : Fin cfg2.N, Reads2 V c t p (zz (t.val / 16)) (xx (t.val / 16))) :
    ∀ (n : ℕ) (hn : n < cfg2.N), (outsAt2 V c n hn).2.2 = up2 (carryTo p (xx (n / 16)) (8 * (n % 16) + 8)) := by
  intro n
  induction n using Nat.strong_induction_on with
  | _ n ih =>
    intro hn
    by_cases h0 : n % 16 = 0
    · rw [outsAt2_A V c ⟨n, hn⟩ h0]
      exact value2_A_carry (h ⟨n, hn⟩) h0
    · rw [outsAt2_B V c ⟨n, hn⟩ h0]
      refine value2_B_carry (h ⟨n, hn⟩) h0 _ ((ih (n - 1) (by omega) _).trans ?_)
      show up2 (carryTo p (xx ((n - 1) / 16)) (8 * ((n - 1) % 16) + 8)) = up2 (carryTo p (xx (n / 16)) (8 * (n % 16)))
      rw [div_pred h0, mod_pred h0]

/-- The blocks of the output at every point. -/
theorem value2_10 (h : ∀ t : Fin cfg2.N, Reads2 V c t p (zz (t.val / 16)) (xx (t.val / 16))) (k : Fin 8) (r s : Fin 64) :
    (outsAt2 V c t.val t.isLt).2.1 (ix2 r ⟨64 * k.val + s.val, by omega⟩)
    = ((outBlock p (zz (t.val / 16)) (xx (t.val / 16)) (8 * (t.val % 16) + k.val) r s : ℝ) : EReal) + (iblk2 V c 3 t : Vec Ideal S8x64 .f32) (ix2 k s) := by
  by_cases h0 : t.val % 16 = 0
  · rw [outsAt2_A V c t h0]
    exact value2_A_y (h t) h0 k r s
  · rw [outsAt2_B V c t h0]
    refine value2_B_y (h t) h0 _ ((value2_carry h (t.val - 1) _).trans ?_) k r s
    rw [div_pred h0, mod_pred h0]

/-- The leading columns of the output after every point of a sweep. -/
theorem value2_9 (h : ∀ t : Fin cfg2.N, Reads2 V c t p (zz (t.val / 16)) (xx (t.val / 16)))
    (m : Vec Ideal S1x64 .f32) (hm : ∀ t, iblk2 V c 2 t = m) (r s : Fin 64) :
    ∀ (n : ℕ) (hn : n < cfg2.N), (outsAt2 V c n hn).1 (ix2 r s) = m (ix2 0 s) + (((zz (n / 16) * p.data.Gzᵀ) r s : ℝ) : EReal) := by
  intro n
  induction n using Nat.strong_induction_on with
  | _ n ih =>
    intro hn
    by_cases h0 : n % 16 = 0
    · rw [outsAt2_A V c ⟨n, hn⟩ h0]
      exact value2_A_z (h ⟨n, hn⟩) h0 m (hm _) r s
    · rw [outsAt2_B V c ⟨n, hn⟩ h0]
      refine (ih (n - 1) (by omega) (by omega)).trans ?_
      rw [div_pred h0]

end Cert.Pay

end
-- ==== Proof.Value.Arrays2.lean ====
/- The arrays the last region leaves and the result they join to. -/
module

public import proofs.«01_k».proof.Proof.Arrow.Factor
public import proofs.«01_k».proof.Proof.Value.Arrays
public import proofs.«01_k».proof.Proof.Value.Region2

@[expose] public section

set_option maxRecDepth 16384

noncomputable section

namespace Cert.Pay

open Cert.KernelIdeal Cert.KernelIdeal.Gen Cert.KernelIdeal.Whole Cert.Arrow
open Idealize.ShloMosaic Idealize.ShloMosaic.TcCoe Idealize.ShloMosaic.Tactic Matrix
open Idealize.SL.Sem

theorem index2 : ∀ t : Fin cfg2.N, win2_0.index t = ![t.val / 16, 0] ∧ win2_1.index t = ![t.val / 16, t.val % 16] ∧ win2_2.index t = ![0, 0]
    ∧ win2_3.index t = ![t.val % 16, 0] ∧ win2_4.index t = ![0, 0] ∧ win2_5.index t = ![0, 0] ∧ win2_6.index t = ![t.val % 16, 0, 0]
    ∧ win2_7.index t = ![t.val % 16, 0, 0] ∧ win2_8.index t = ![t.val % 16, 0, 0] ∧ win2_9.index t = ![t.val / 16, 0] ∧ win2_10.index t = ![t.val / 16, t.val % 16] :=
  (by decide +kernel : ∀ t : Fin grid2.N, _)

/-- The mean plus the noise against the factor. -/
def result (μ : Vec Ideal S8256 .f32) (p : Inp) (E : Matrix (Fin 128) (Fin 8256) ℝ) (i : Fin 128) (l : Fin 8256) : EReal :=
  μ (ix1 l) + (((E * p.facᵀ) i l : ℝ) : EReal)

theorem out_eq_block (p : Inp) (E : Matrix (Fin 128) (Fin 8256) ℝ) (I b : ℕ) (r s : Fin 64) (i : Fin 128) (l : Fin 8256) (hb : b < 128)
    (hi : i.val = 64 * I + r.val) (hl : l.val = 64 * (b + 1) + s.val) :
    (E * p.facᵀ) i l = outBlock p (Inp.zz E I) (Inp.xx E I) b r s := by
  rw [Inp.out_row, show i.val / 64 = I by omega, show l.val / 64 = b + 1 by omega, p.out_block E I b hb,
    show (⟨i.val % 64, Nat.mod_lt _ (by omega)⟩ : Fin 64) = r from Fin.ext (show i.val % 64 = r.val by omega),
    show inBlk l = s from Fin.ext (show l.val % 64 = s.val by omega)]
  rfl

theorem out_eq_lead (p : Inp) (E : Matrix (Fin 128) (Fin 8256) ℝ) (I : ℕ) (r s : Fin 64) (i : Fin 128) (l : Fin 8256)
    (hi : i.val = 64 * I + r.val) (hl : l.val = s.val) :
    (E * p.facᵀ) i l = (Inp.zz E I * p.data.Gzᵀ) r s := by
  rw [Inp.out_row, show i.val / 64 = I by omega, show l.val / 64 = 0 by omega, p.out_lead E I,
    show (⟨i.val % 64, Nat.mod_lt _ (by omega)⟩ : Fin 64) = r from Fin.ext (show i.val % 64 = r.val by omega),
    show inBlk l = s from Fin.ext (show l.val % 64 = s.val by omega)]

variable {m : (ℓ : Loc nD τ sig) → Buf (Elt Ideal) ℓ} (ρ : Dev nD → PrngReg) {c : Dev nD} {p : Inp} {E : Matrix (Fin 128) (Fin 8256) ℝ}

theorem host2_6 (j : Fin 64) : (V4 m ρ c main_call0_v6 : Vec Ideal S1x64 .f32) (ix2 0 j)
    = (m ((c : Thread nD τ).loc main_arg0) : Vec Ideal S8256 .f32) (ix1 ⟨j.val, by omega⟩) := by
  simp only [V4, W4, hostOps2]
  after_results
  refine (shapeCast_apply _ shapeCasts_S64_S1x64 (ix2 0 j) (ix1 j) ?_).trans ?_
  · refine (Shape.rowMajor_val_one (ix1 j)).trans (Eq.trans ?_ (Shape.rowMajor_val_two (ix2 (0 : Fin 1) j)).symm)
    show j.val = 0 * 64 + j.val
    omega
  · refine (extractStridedSlice_apply ![0] _ slices_S8256_S64_0 (ix1 j) (ix1 ⟨j.val, by omega⟩) ?_).trans ?_
    · intro a
      match a with
      | ⟨0, _⟩ => exact (Nat.zero_add _).symm
    · exact congrFun (W3_args m ρ c main_arg0 (by decide)) _

theorem host2_8 (k : Fin 128) (j : Fin 64) : (V4 m ρ c main_call0_v8 : Vec Ideal S128x64 .f32) (ix2 k j)
    = (m ((c : Thread nD τ).loc main_arg0) : Vec Ideal S8256 .f32) (ix1 ⟨64 + (64 * k.val + j.val), by omega⟩) := by
  simp only [V4, W4, hostOps2]
  after_results
  refine (shapeCast_apply _ shapeCasts_S8192_S128x64 (ix2 k j) (ix1 ⟨64 * k.val + j.val, by omega⟩) ?_).trans ?_
  · refine (Shape.rowMajor_val_one (ix1 (⟨64 * k.val + j.val, by omega⟩ : Fin 8192))).trans (Eq.trans ?_ (Shape.rowMajor_val_two (ix2 k j)).symm)
    show 64 * k.val + j.val = k.val * 64 + j.val
    omega
  · refine (extractStridedSlice_apply ![64] _ slices_S8256_S8192_64 (ix1 ⟨64 * k.val + j.val, by omega⟩) (ix1 ⟨64 + (64 * k.val + j.val), by omega⟩) ?_).trans ?_
    · intro a
      match a with
      | ⟨0, _⟩ => rfl
    · exact congrFun (W3_args m ρ c main_arg0 (by decide)) _

variable (hm : Entries m c p E)

include hm

theorem host2_3 : V4 m ρ c main_call0_v3 = up2 (n := 128) (m := 64) (Matrix.of fun i j => E i ⟨j.val, by omega⟩) := by
  refine up2_ext (n := 128) (m := 64) fun i j => ?_
  simp only [V4, W4, hostOps2]
  after_results
  refine (extractStridedSlice_apply ![0, 0] _ slices_S128x8256_S128x64_0_0 (ix2 i j) (ix2 i ⟨j.val, by omega⟩) ?_).trans ?_
  · intro a
    match a with
    | ⟨0, _⟩ => exact (Nat.zero_add _).symm
    | ⟨1, _⟩ => exact (Nat.zero_add _).symm
  · exact (congrFun (W3_args m ρ c main_arg4 (by decide)) _).trans (hm.e i _)

theorem host2_4 : V4 m ρ c main_call0_v4 = up2 (n := 128) (m := 8192) (Matrix.of fun i j => E i ⟨64 + j.val, by omega⟩) := by
  refine up2_ext (n := 128) (m := 8192) fun i j => ?_
  simp only [V4, W4, hostOps2]
  after_results
  refine (extractStridedSlice_apply ![0, 64] _ slices_S128x8256_S128x8192_0_64 (ix2 i j) (ix2 i ⟨64 + j.val, by omega⟩) ?_).trans ?_
  · intro a
    match a with
    | ⟨0, _⟩ => exact (Nat.zero_add _).symm
    | ⟨1, _⟩ => rfl
  · exact (congrFun (W3_args m ρ c main_arg4 (by decide)) _).trans (hm.e i _)

theorem reads2 (t : Fin cfg2.N) : Reads2 (V4 m ρ) c t p (Inp.zz E (t.val / 16)) (Inp.xx E (t.val / 16)) where
  h0 := by
    have e := (index2 t).1
    have hN : t.val < 32 := t.isLt
    have hA : V4 m ρ c main_call0_v3 = _ := host2_3 ρ hm
    refine up2_ext (n := 64) (m := 64) fun i j => ?_
    blk_simp [iblk2, e]
    rw [hA]
    refine (up2_at _ _ (⟨64 * (t.val / 16) + i.val, by omega⟩ : Fin 128) j ?_ ?_).trans ?_
    · blk_simp [e]; show _ = 64 * (t.val / 16) + i.val; omega
    · blk_simp [e] <;> omega
    · exact congrArg _ (Eq.symm (show Inp.zz E (t.val / 16) i j = _ from dif_pos (show 64 * (t.val / 16) + i.val < 128 by omega)))
  h1 := by
    have e := (index2 t).2.1
    have hN : t.val < 32 := t.isLt
    have hA : V4 m ρ c main_call0_v4 = _ := host2_4 ρ hm
    refine up2_ext (n := 64) (m := 512) fun i j => ?_
    blk_simp [iblk2, e]
    rw [hA]
    refine (up2_at _ _ (⟨64 * (t.val / 16) + i.val, by omega⟩ : Fin 128) (⟨512 * (t.val % 16) + j.val, by omega⟩ : Fin 8192) ?_ ?_).trans ?_
    · blk_simp [e]; show _ = 64 * (t.val / 16) + i.val; omega
    · blk_simp [e]; show _ = 512 * (t.val % 16) + j.val; omega
    · refine congrArg _ (Eq.trans ?_ (dif_pos (show 64 * (t.val / 16) + i.val < 128 ∧ 64 * (8 * (t.val % 16) + j.val / 64 + 1) + j.val % 64 < 8256 by omega)).symm)
      exact congrArg (E _) (Fin.ext (show 64 + (512 * (t.val % 16) + j.val) = 64 * (8 * (t.val % 16) + j.val / 64 + 1) + j.val % 64 by omega))
  h4 := by
    have e := (index2 t).2.2.2.2.1
    have hA : V4 m ρ c main_call0_v1_0 = _ :=
      (W4_of m ρ c main_call0_v1_0 (by decide)).trans ((W3_of m ρ c main_call0_v1_0 (by decide)).trans ((W2_arr m ρ c 3).trans (arr0_3 ρ hm)))
    refine up2_ext (n := 64) (m := 64) fun i j => ?_
    blk_simp [iblk2, e]
    rw [hA]
    refine up2_at _ _ i j ?_ ?_ <;> blk_simp [e] <;> try rfl
  h5 := by
    have e := (index2 t).2.2.2.2.2.1
    have hA : V4 m ρ c main_call0_v1_1 = _ :=
      (W4_of m ρ c main_call0_v1_1 (by decide)).trans ((W3_of m ρ c main_call0_v1_1 (by decide)).trans ((W2_arr m ρ c 4).trans (arr0_4 ρ hm)))
    refine up2_ext (n := 64) (m := 64) fun i j => ?_
    blk_simp [iblk2, e]
    rw [hA]
    refine up2_at _ _ i j ?_ ?_ <;> blk_simp [e] <;> try rfl
  h6 := by
    have e := (index2 t).2.2.2.2.2.2.1
    have hA : V4 m ρ c main_call0_v2_0 = _ := (W4_of m ρ c main_call0_v2_0 (by decide)).trans ((W3_arr m ρ c 4).trans (arr1_4 ρ hm))
    refine up3_ext fun n i j => ?_
    blk_simp [iblk2, e]
    rw [hA]
    refine up3_at (fun b => (p.data.B b)ᵀ) _ _ i j ?_ ?_ ?_ <;> blk_simp [e] <;> omega
  h7 := by
    have e := (index2 t).2.2.2.2.2.2.2.1
    have hA : V4 m ρ c main_call0_v2_1 = _ := (W4_of m ρ c main_call0_v2_1 (by decide)).trans ((W3_arr m ρ c 5).trans (arr1_5 ρ hm))
    refine up3_ext fun n i j => ?_
    blk_simp [iblk2, e]
    rw [hA]
    refine up3_at (fun b => (p.data.Gbb b)ᵀ) _ _ i j ?_ ?_ ?_ <;> blk_simp [e] <;> omega
  h8 := by
    have e := (index2 t).2.2.2.2.2.2.2.2.1
    have hA : V4 m ρ c main_call0_v2_2 = _ := (W4_of m ρ c main_call0_v2_2 (by decide)).trans ((W3_arr m ρ c 6).trans (arr1_6 ρ hm))
    refine up3_ext fun n i j => ?_
    blk_simp [iblk2, e]
    rw [hA]
    refine up3_at (pair p) _ _ i j ?_ ?_ ?_ <;> blk_simp [e] <;> omega

omit hm in
theorem read2_2 (t : Fin cfg2.N) : (iblk2 (V4 m ρ) c 2 t : Vec Ideal S1x64 .f32) = V4 m ρ c main_call0_v6 := by
  have e := (index2 t).2.2.1
  funext y
  blk_simp [iblk2, e]
  refine congrArg _ (funext fun a => Fin.ext ?_)
  match a with
  | ⟨0, _⟩ => blk_simp [e]; try rfl
  | ⟨1, _⟩ => blk_simp [e]; try rfl

omit hm in
theorem read2_3 (t : Fin cfg2.N) (k : Fin 8) (s : Fin 64) (l : Fin 8256) (hl : l.val = 64 * (8 * (t.val % 16) + k.val + 1) + s.val) :
    (iblk2 (V4 m ρ) c 3 t : Vec Ideal S8x64 .f32) (ix2 k s) = (m ((c : Thread nD τ).loc main_arg0) : Vec Ideal S8256 .f32) (ix1 l) := by
  have e := (index2 t).2.2.2.1
  have hy : ((win2_3.blk t).view.emb (ix2 k s) : S128x64.Idx) = ix2 (⟨8 * (t.val % 16) + k.val, by omega⟩ : Fin 128) s := by
    funext a
    refine Fin.ext ?_
    match a with
    | ⟨0, _⟩ => blk_simp [e]; show _ = 8 * (t.val % 16) + k.val; omega
    | ⟨1, _⟩ => blk_simp [e]; try rfl
  blk_simp [iblk2]
  refine (congrArg (V4 m ρ c main_call0_v8 : Vec Ideal S128x64 .f32) hy).trans ((host2_8 ρ _ _).trans ?_)
  exact congrArg (m ((c : Thread nD τ).loc main_arg0) : Vec Ideal S8256 .f32) (congrArg ix1 (Fin.ext (by
    show 64 + (64 * (8 * (t.val % 16) + k.val) + s.val) = l.val
    omega)))

theorem arr2_10 : (dat2 (V4 m ρ) c).arrAt 10 cfg2.N = (fun y => result (m ((c : Thread nD τ).loc main_arg0)) p E (y 0) ⟨64 + (y 1).val, by have h : (y 1).val < 8192 := (y 1).isLt; omega⟩ : Vec Ideal S128x8192 .f32) := by
  refine (dat2 (V4 m ρ) c).arrAt_eq_of_covers 10 _ (by decide +kernel) fun t hf y => ?_
  have e := (index2 t).2.2.2.2.2.2.2.2.2.2
  have hN : t.val < 32 := t.isLt
  have e0 : (((win2_10.blk t).view.emb y) 0).val = 64 * (t.val / 16) + (y 0).val := by blk_simp [e]; omega
  have e1 : win2_10.index t 1 * 512 + (y 1).val = 512 * (t.val % 16) + (y 1).val := by
    rw [e]
    show t.val % 16 * 512 + (y 1).val = _
    omega
  have h0 : (y 0).val < 64 := (y 0).isLt
  have h1 : (y 1).val < 512 := (y 1).isLt
  blk_simp
  rw [after2_10]
  have hy : y = ix2 (⟨(y 0).val, h0⟩ : Fin 64) (⟨64 * ((y 1).val / 64) + (y 1).val % 64, by omega⟩ : Fin 512) := by
    funext a
    refine Fin.ext ?_
    match a with
    | ⟨0, _⟩ => rfl
    | ⟨1, _⟩ => exact (Nat.div_add_mod _ _).symm
  have hv := value2_10 (fun t => reads2 ρ hm t) (t := t) ⟨(y 1).val / 64, by omega⟩ ⟨(y 0).val, h0⟩ ⟨(y 1).val % 64, by omega⟩
  refine (congrArg (outsAt2 (V4 m ρ) c t.val t.isLt).2.1 hy).trans (hv.trans ?_)
  rw [add_comm]
  unfold result
  congr 1
  · exact read2_3 ρ t _ _ _ (by
      show 64 + (win2_10.index t 1 * 512 + (y 1).val) = 64 * (8 * (t.val % 16) + (y 1).val / 64 + 1) + (y 1).val % 64
      omega)
  · refine congrArg _ (out_eq_block p E _ _ _ _ _ _ ?_ ?_ ?_).symm
    · show 8 * (t.val % 16) + (y 1).val / 64 < 128
      omega
    · exact e0
    · show 64 + (win2_10.index t 1 * 512 + (y 1).val) = 64 * (8 * (t.val % 16) + (y 1).val / 64 + 1) + (y 1).val % 64
      omega

theorem arr2_9 : (dat2 (V4 m ρ) c).arrAt 9 cfg2.N = (fun y => result (m ((c : Thread nD τ).loc main_arg0)) p E (y 0) ⟨(y 1).val, by have h : (y 1).val < 64 := (y 1).isLt; omega⟩ : Vec Ideal S128x64 .f32) := by
  refine (dat2 (V4 m ρ) c).arrAt_eq_of_covers 9 _ (by decide +kernel) fun t hf y => ?_
  have e := (index2 t).2.2.2.2.2.2.2.2.2.1
  have hN : t.val < 32 := t.isLt
  have e0 : (((win2_9.blk t).view.emb y) 0).val = 64 * (t.val / 16) + (y 0).val := by blk_simp [e]; omega
  have e1 : win2_9.index t 1 * 64 + (y 1).val = (y 1).val := by
    rw [e]
    show 0 * 64 + (y 1).val = _
    omega
  have h0 : (y 0).val < 64 := (y 0).isLt
  have h1 : (y 1).val < 64 := (y 1).isLt
  blk_simp
  rw [after2_9]
  have hy : y = ix2 (⟨(y 0).val, h0⟩ : Fin 64) (⟨(y 1).val, h1⟩ : Fin 64) := by
    funext a
    match a with
    | ⟨0, _⟩ => rfl
    | ⟨1, _⟩ => rfl
  have hv := value2_9 (fun t => reads2 ρ hm t) (V4 m ρ c main_call0_v6) (fun t => read2_2 ρ t) ⟨(y 0).val, h0⟩ ⟨(y 1).val, h1⟩ t.val t.isLt
  refine (congrArg (outsAt2 (V4 m ρ) c t.val t.isLt).1 hy).trans (hv.trans ?_)
  unfold result
  congr 1
  · exact (host2_6 ρ _).trans (congrArg (m ((c : Thread nD τ).loc main_arg0) : Vec Ideal S8256 .f32) (congrArg ix1 (Fin.ext e1.symm)))
  · refine congrArg _ (out_eq_lead p E _ _ _ _ _ ?_ ?_).symm
    · exact e0
    · exact e1

/-- The kernel's result. -/
theorem result_eq (i : Fin 128) (l : Fin 8256) : (W6 m ρ c (Proc.devRef .tc main_v0) : Vec Ideal S128x8256 .f32) (ix2 i l)
    = result (m ((c : Thread nD τ).loc main_arg0)) p E i l := by
  have h9 : W5 m ρ c (Proc.devRef .tc main_call0_v9_0) = _ := (W5_arr m ρ c 9).trans (arr2_9 ρ hm)
  have h10 : W5 m ρ c (Proc.devRef .tc main_call0_v9_1) = _ := (W5_arr m ρ c 10).trans (arr2_10 ρ hm)
  simp only [W6, hostOps3]
  after_results
  show concatenate S128x8256 1 [⟨S128x64, W5 m ρ c (Proc.devRef .tc main_call0_v9_0)⟩, ⟨S128x8192, W5 m ρ c (Proc.devRef .tc main_call0_v9_1)⟩]
    concatenates_S128x64_S128x8192_S128x8256_d1 (ix2 i l) = _
  rw [h9, h10]
  pointwise
  by_cases h : l.val < 64
  · exact dif_pos h
  · refine (dif_neg h).trans (congrArg (result (m ((c : Thread nD τ).loc main_arg0)) p E i) (Fin.ext ?_))
    show 64 + (l.val - 64) = l.val
    omega

end Cert.Pay

end
-- ==== Proof.Value.RefLoop.lean ====
/- The reference's loop: each trip fills one column of the factor. -/
module

public import proofs.«01_k».proof.Proof.Gen.ReferenceIdeal.Run
public import proofs.«01_k».proof.Proof.Arrow.Factor
public import proofs.«01_k».proof.Proof.Arrow.At
public import proofs.«01_k».proof.Proof.Arrow.Loops
public import Idealize.ShloMosaic.Lib.Pipeline.ValueKit
@[expose] public section
set_option maxRecDepth 16384

noncomputable section

namespace Cert.RefValue
open Cert.ReferenceIdeal Cert.ReferenceIdeal.Gen Cert.ReferenceIdeal.Value Cert.Arrow
open Idealize.ShloMosaic Idealize.ShloMosaic.TcCoe Idealize.ShloMosaic.Tactic Matrix
open Idealize.SL.Sem

/-- A start word is its number. -/
theorem word_start (k : ℕ) (hk : k < 8256) :
    BitVec.toInt (Scalar.select (IntOp.cmpi CmpIPredicate.slt (BitVec.ofNat 32 k) 0#32) (IntOp.addi (BitVec.ofNat 32 k) 8256#32) (BitVec.ofNat 32 k)) = (k : ℤ) := by
  have h : IntOp.cmpi CmpIPredicate.slt (BitVec.ofNat 32 k) 0#32 = 0#1 := by
    have := WordCmp.cmpi_slt_ofNat (w := 32) (a := k) (b := 0) (by omega) (by omega)
    rw [this]
    simp
  rw [h]
  show BitVec.toInt (BitVec.ofNat 32 k) = k
  rw [BitVec.toInt_eq_toNat_of_lt, BitVec.toNat_ofNat, Nat.mod_eq_of_lt (by omega)]
  rw [BitVec.toNat_ofNat, Nat.mod_eq_of_lt (by omega)]
  omega

/-- A column cut out of a matrix. -/
theorem cut_col (A : Matrix (Fin 8256) (Fin 8256) ℝ) (start : Fin 2 → ℤ) (k : Fin 8256) (h0 : start 0 = (0 : ℕ)) (h1 : start 1 = (k.val : ℕ)) :
    shapeCast S8256 (Host.dynamicSlice S8256x1 (up2 A : Vec Ideal S8256x8256 .f32) start sliceFits_S8256x8256_S8256x1) shapeCasts_S8256x1_S8256
      = fun y => ((A (y 0) k : ℝ) : EReal) := by
  have hs0 : Host.clampedStart S8256x8256 S8256x1 rfl start 0 = 0 := Host.clampedStart_of_le (s := S8256x8256) (t := S8256x1) rfl start 0 0 h0 (by show 0 + 8256 ≤ 8256; omega)
  have hs1 : Host.clampedStart S8256x8256 S8256x1 rfl start 1 = k.val := Host.clampedStart_of_le (s := S8256x8256) (t := S8256x1) rfl start 1 k.val h1 (by show k.val + 1 ≤ 8256; omega)
  funext y
  obtain ⟨i, rfl⟩ : ∃ i : Fin 8256, y = ix1 i := ⟨y 0, (ix1_eta y).symm⟩
  pointwise
  refine up2_at A _ i k ?_ hs1
  show Host.clampedStart S8256x8256 S8256x1 rfl start 0 + i.val = i.val
  rw [hs0, Nat.zero_add]

/-- A row cut out of a matrix. -/
theorem cut_row (A : Matrix (Fin 8256) (Fin 8256) ℝ) (start : Fin 2 → ℤ) (k : Fin 8256) (h0 : start 0 = (k.val : ℕ)) (h1 : start 1 = (0 : ℕ)) :
    shapeCast S8256 (Host.dynamicSlice S1x8256 (up2 A : Vec Ideal S8256x8256 .f32) start sliceFits_S8256x8256_S1x8256) shapeCasts_S1x8256_S8256
      = fun y => ((A k (y 0) : ℝ) : EReal) := by
  have hs0 : Host.clampedStart S8256x8256 S1x8256 rfl start 0 = k.val := Host.clampedStart_of_le (s := S8256x8256) (t := S1x8256) rfl start 0 k.val h0 (by show k.val + 1 ≤ 8256; omega)
  have hs1 : Host.clampedStart S8256x8256 S1x8256 rfl start 1 = 0 := Host.clampedStart_of_le (s := S8256x8256) (t := S1x8256) rfl start 1 0 h1 (by show 0 + 8256 ≤ 8256; omega)
  funext y
  obtain ⟨i, rfl⟩ : ∃ i : Fin 8256, y = ix1 i := ⟨y 0, (ix1_eta y).symm⟩
  pointwise
  refine up2_at A _ k i hs0 ?_
  show Host.clampedStart S8256x8256 S1x8256 rfl start 1 + i.val = i.val
  rw [hs1, Nat.zero_add]

/-- An entry cut out of a vector. -/
theorem cut_one (R : Vec Ideal S8256 .f32) (start : Fin 1 → ℤ) (k : Fin 8256) (h0 : start 0 = (k.val : ℕ)) :
    shapeCast S_ (Host.dynamicSlice S1 R start sliceFits_S8256_S1) shapeCasts_S1_S_ = fun _ => R (ix1 k) := by
  have hs0 : Host.clampedStart S8256 S1 rfl start 0 = k.val := Host.clampedStart_of_le (s := S8256) (t := S1) rfl start 0 k.val h0 (by show k.val + 1 ≤ 8256; omega)
  funext y
  rw [← ix0_eta y]
  pointwise
  exact congrArg R (congrArg ix1 (Fin.ext hs0))

/-- What the columns filled so far leave of column `k`. -/
theorem resid (V0 : Valuation τ sig (Elt Ideal)) (k : Fin 8256) (A C : Matrix (Fin 8256) (Fin 8256) ℝ)
    (h0 : V0 (Proc.devRef .tc main_v32_0) = up2 A) (h3 : V0 (Proc.devRef .tc main_v32_3) = fun _ => BitVec.ofNat 32 k.val)
    (h4 : V0 (Proc.devRef .tc main_v32_4) = up2 C) :
    (res_main_while0b_v58 V0 : Vec Ideal S8256 .f32) = fun y => ((A (y 0) k - ∑ l, C (y 0) l * C k l : ℝ) : EReal) := by
  have hw := word_start k.val k.isLt
  have hz := word_start 0 (by omega)
  unfold res_main_while0b_v58 res_main_while0b_v39 res_main_while0b_v48
  rw [h0, h3, h4]
  rw [cut_row C _ k hw hz, cut_col A _ k hz hw]
  funext y
  obtain ⟨i, rfl⟩ : ∃ i : Fin 8256, y = ix1 i := ⟨y 0, (ix1_eta y).symm⟩
  pointwise
  show ((A i k : ℝ) : EReal) - ∑ l, ((C i l : ℝ) : EReal) * ((C k l : ℝ) : EReal) = _
  simp only [← EReal.coe_mul]
  rw [coe_sum, ← EReal.coe_sub]

theorem zero_word : id (constant S_ FTy.f32 0#32 : FVec Ideal S_ .f32) ix0 = ((0 : ℝ) : EReal) := by
  rw [id_eq]
  pointwise
  rfl

/-- One trip. -/
theorem step (V0 : Valuation τ sig (Elt Ideal)) (k : Fin 8256) (A C : Matrix (Fin 8256) (Fin 8256) ℝ)
    (h0 : V0 (Proc.devRef .tc main_v32_0) = up2 A)
    (h1 : V0 (Proc.devRef .tc main_v32_1) = (iotaInDim S8256 32 0 : Vec Ideal S8256 .i32)) (h3 : V0 (Proc.devRef .tc main_v32_3) = fun _ => BitVec.ofNat 32 k.val)
    (h4 : V0 (Proc.devRef .tc main_v32_4) = up2 C) (hp : 0 < A k k - ∑ l, C k l * C k l) :
    step_main_v32_4 V0 = up2 (colStep A k C) := by
  have hw := word_start k.val k.isLt
  refine up2_ext fun i j => ?_
  unfold step_main_v32_4
  rw [resid V0 k A C h0 h3 h4, h1, h3, h4]
  rw [cut_one _ _ k hw, id_eq]
  pointwise
  refine (sel_eq (by omega) (by omega) _ _).trans ?_
  unfold colStep
  by_cases hj : j = k
  · subst hj
    rw [if_pos rfl, if_pos rfl]
    refine (sel_ge (by omega) (by omega) _ _).trans ?_
    by_cases hi : j ≤ i
    · rw [if_pos hi, if_pos (show j.val ≤ i.val from hi)]
      refine (congrArg₂ Ideal.div rfl (sqrt_nonneg hp)).trans ?_
      exact div_real (Real.sqrt_pos.mpr hp).ne'
    · rw [if_neg hi, if_neg (show ¬ j.val ≤ i.val from hi)]
      exact zero_word
  · rw [if_neg hj, if_neg fun e => hj (Fin.ext e)]
    rfl

/-- The contents before trip `k`. -/
theorem loop (V0 : Valuation τ sig (Elt Ideal)) (A G : Matrix (Fin 8256) (Fin 8256) ℝ) (hG : IsChol A G)
    (h0 : V0 (Proc.devRef .tc main_v32_0) = up2 A)
    (h1 : V0 (Proc.devRef .tc main_v32_1) = (iotaInDim S8256 32 0 : Vec Ideal S8256 .i32))
    (h3 : V0 (Proc.devRef .tc main_v32_3) = fun _ => 0#32)
    (h4 : V0 (Proc.devRef .tc main_v32_4) = up2 (0 : Matrix (Fin 8256) (Fin 8256) ℝ)) :
    ∀ k : ℕ, k ≤ 8256 → (STEP^[k] V0) (Proc.devRef .tc main_v32_0) = up2 A
      ∧ (STEP^[k] V0) (Proc.devRef .tc main_v32_1) = (iotaInDim S8256 32 0 : Vec Ideal S8256 .i32)
      ∧ (STEP^[k] V0) (Proc.devRef .tc main_v32_3) = (fun _ => BitVec.ofNat 32 k)
      ∧ (STEP^[k] V0) (Proc.devRef .tc main_v32_4) = up2 (colState G k) := by
  intro k
  induction k with
  | zero =>
    intro _
    refine ⟨h0, h1, h3, ?_⟩
    rw [colState_zero]
    exact h4
  | succ k ih =>
    intro hk
    obtain ⟨e0, e1, e3, e4⟩ := ih (by omega)
    rw [Function.iterate_succ_apply']
    refine ⟨?_, ?_, ?_, ?_⟩
    · rw [STEP_main_v32_0]; exact e0
    · rw [STEP_main_v32_1]; exact e1
    · rw [STEP_main_v32_3]
      unfold step_main_v32_3
      rw [e3]
      funext y
      show BitVec.ofNat 32 k + BitVec.ofNat 32 1 = BitVec.ofNat 32 (k + 1)
      exact (BitVec.ofNat_add k 1).symm
    · rw [STEP_main_v32_4, step _ ⟨k, by omega⟩ A (colState G k) e0 e1 e3 e4 ?_, colStep_state hG ⟨k, by omega⟩]
      have := colState_rest hG ⟨k, by omega⟩ ⟨k, by omega⟩
      refine lt_of_lt_of_eq ?_ this.symm
      exact mul_pos (hG.pos _) (hG.pos _)

/-- The result of contents whose factor is `G`. -/
theorem out_eq (V0 : Valuation τ sig (Elt Ideal)) (μ : Vec Ideal S8256 .f32) (hμ : V0 (Proc.devRef .tc main_arg0) = μ) (G : Matrix (Fin 8256) (Fin 8256) ℝ) (E : Matrix (Fin 128) (Fin 8256) ℝ)
    (h4 : V0 (Proc.devRef .tc main_v32_4) = up2 G) (he : V0 (Proc.devRef .tc main_arg4) = up2 E) (i : Fin 128) (l : Fin 8256) :
    (out_main_v37 V0 : Vec Ideal S128x8256 .f32) (ix2 i l) = μ (ix1 l) + (((E * Gᵀ) i l : ℝ) : EReal) := by
  unfold out_main_v37
  rw [h4, he, hμ]
  pointwise
  refine congrArg (μ (ix1 l) + ·) ?_
  show ∑ x, ((E i x : ℝ) : EReal) * ((G l x : ℝ) : EReal) = _
  simp only [← EReal.coe_mul]
  rw [coe_sum, Matrix.mul_apply]
  rfl

end Cert.RefValue

end
-- ==== Proof.Value.RefEntry.lean ====
/- What the reference's loop starts from: the covariance of the arrow matrix. -/
module

public import proofs.«01_k».proof.Proof.Gen.ReferenceIdeal.Run
public import proofs.«01_k».proof.Proof.Arrow.Factor
public import proofs.«01_k».proof.Proof.Arrow.At
public import proofs.«01_k».proof.Proof.Pay.Consts
public import Idealize.ShloMosaic.Lib.Pipeline.ValueKit

@[expose] public section

set_option maxRecDepth 16384

noncomputable section

namespace Cert.RefValue

open Cert.ReferenceIdeal Cert.ReferenceIdeal.Gen Cert.ReferenceIdeal.Value Cert.Arrow
open Idealize.ShloMosaic Idealize.ShloMosaic.TcCoe Idealize.ShloMosaic.Tactic Matrix
open Idealize.SL.Sem Idealize.ShloMosaic.StableHlo

/-- Blocks of side 16 down a diagonal. -/
def diag (L : ℕ → Matrix (Fin 16) (Fin 16) ℝ) : Matrix (Fin 8192) (Fin 8192) ℝ := fun r s =>
  if r.val / 16 = s.val / 16 then L (r.val / 16) ⟨r.val % 16, Nat.mod_lt _ (by omega)⟩ ⟨s.val % 16, Nat.mod_lt _ (by omega)⟩ else 0

/-- The arrow matrix by its entries. -/
theorem arrow_entry (p : Inp) (i l : Fin 8256) : p.arrow i l =
    if hi : i.val < 64 then (if hl : l.val < 64 then p.Lz ⟨i.val, hi⟩ ⟨l.val, hl⟩ else 0)
    else if hl : l.val < 64 then p.U (i.val - 64) ⟨l.val, hl⟩ else diag p.Ly ⟨i.val - 64, by omega⟩ ⟨l.val - 64, by omega⟩ := by
  show p.arrowB (i.val / 64) (l.val / 64) (inBlk i) (inBlk l) = _
  by_cases hi : i.val < 64
  · rw [dif_pos hi]
    by_cases hl : l.val < 64
    · rw [dif_pos hl, show i.val / 64 = 0 by omega, show l.val / 64 = 0 by omega]
      exact congrArg₂ p.Lz (Fin.ext (Nat.mod_eq_of_lt hi)) (Fin.ext (Nat.mod_eq_of_lt hl))
    · rw [dif_neg hl, show i.val / 64 = 0 by omega, show l.val / 64 = (l.val / 64 - 1) + 1 by omega]
      rfl
  · rw [dif_neg hi]
    by_cases hl : l.val < 64
    · rw [dif_pos hl, show i.val / 64 = (i.val / 64 - 1) + 1 by omega, show l.val / 64 = 0 by omega]
      show p.U (64 * (i.val / 64 - 1) + i.val % 64) (inBlk l) = _
      exact congrArg₂ p.U (by omega) (Fin.ext (Nat.mod_eq_of_lt hl))
    · rw [dif_neg hl, show i.val / 64 = (i.val / 64 - 1) + 1 by omega, show l.val / 64 = (l.val / 64 - 1) + 1 by omega]
      show (if i.val / 64 - 1 = l.val / 64 - 1 then bd p.Ly (i.val / 64 - 1) else 0) (inBlk i) (inBlk l)
        = if (i.val - 64) / 16 = (l.val - 64) / 16 then p.Ly ((i.val - 64) / 16) ⟨(i.val - 64) % 16, _⟩ ⟨(l.val - 64) % 16, _⟩ else 0
      by_cases h1 : i.val / 64 - 1 = l.val / 64 - 1
      · rw [if_pos h1]
        show (if i.val % 64 / 16 = l.val % 64 / 16 then p.Ly (4 * (i.val / 64 - 1) + i.val % 64 / 16) ⟨i.val % 64 % 16, _⟩ ⟨l.val % 64 % 16, _⟩ else 0) = _
        by_cases h2 : i.val % 64 / 16 = l.val % 64 / 16
        · rw [if_pos h2, if_pos (by omega)]
          have e0 : 4 * (i.val / 64 - 1) + i.val % 64 / 16 = (i.val - 64) / 16 := by omega
          rw [e0]
          exact congrArg₂ (p.Ly _) (Fin.ext (show i.val % 64 % 16 = (i.val - 64) % 16 by omega)) (Fin.ext (show l.val % 64 % 16 = (l.val - 64) % 16 by omega))
        · rw [if_neg h2, if_neg (by omega)]
      · rw [if_neg h1, if_neg (by omega)]
        rfl

variable (X : Valuation τ sig (Elt Ideal))

/-- The lower triangle of the blocks read as real matrices. -/
def TrilReal (x : (⟨3, ![512, 16, 16]⟩ : Shape).Idx → EReal) (L : ℕ → Matrix (Fin 16) (Fin 16) ℝ) : Prop :=
  ∀ (b : Fin 512) (i j : Fin 16), (if j.val ≤ i.val then x (ix3 b i j) else 0) = ((L b.val i j : ℝ) : EReal)

/-- The lower triangle of the leading block read as a real matrix. -/
def TriReal (x : (⟨2, ![64, 64]⟩ : Shape).Idx → EReal) (L : Matrix (Fin 64) (Fin 64) ℝ) : Prop :=
  ∀ i j : Fin 64, (if j.val ≤ i.val then x (ix2 i j) else 0) = ((L i j : ℝ) : EReal)

theorem addi_none (x : BitVec 32) : IntOp.addi x 0#32 = x := by
  show x + 0#32 = x
  simp

theorem bit_eq {a b : ℕ} (ha : a < 2 ^ 31) (hb : b < 2 ^ 31) :
    (FloatOps.uitofp (F := Ideal) FTy.f32 (IntOp.cmpi CmpIPredicate.eq (BitVec.ofNat 32 a) (BitVec.ofNat 32 b)) : EReal) = ((if a = b then 1 else 0 : ℝ) : EReal) := by
  rw [WordCmp.cmpi_eq_ofNat (by omega) (by omega)]
  by_cases h : a = b
  · rw [if_pos h, decide_eq_true h]
    show (((BitVec.ofBool true).toNat : ℝ) : EReal) = _
    simp
  · rw [if_neg h, decide_eq_false h]
    show (((BitVec.ofBool false).toNat : ℝ) : EReal) = _
    simp

theorem seg0 : (after hostOps0 X (Proc.devRef .tc main_v6) : Vec Ideal S512x1x512x1 .f32)
    = fun y => (((if (y 0).val = (y 2).val then 1 else 0 : ℝ)) : EReal) := by
  simp only [hostOps0]
  after_results
  funext y
  obtain ⟨a, b, q, d, rfl⟩ : ∃ (a : Fin 512) (b : Fin 1) (q : Fin 512) (d : Fin 1), y = ix4 a b q d := ⟨y 0, y 1, y 2, y 3, (ix4_eta y).symm⟩
  pointwise
  rw [addi_none, bit_eq (by omega) (by omega)]
  rfl

theorem seg1 (L : ℕ → Matrix (Fin 16) (Fin 16) ℝ) (h : TrilReal (X (Proc.devRef .tc main_arg2)) L) :
    after hostOps0_1 X (Proc.devRef .tc main_v7) = up3 fun b : Fin 512 => L b.val := by
  refine up3_ext fun b i j => ?_
  simp only [hostOps0_1]
  after_results
  show (select (broadcastInDim S512x16x16 ![1, 2] bcast_S16x16_S512x16x16_1_2
      (cmpi .sge (addi (iotaInDim S16x16 32 0) (broadcastInDim S16x16 ![] bcast_S_S16x16 (constantI S_ 32 0#32))) (iotaInDim S16x16 32 1)))
    (X (Proc.devRef .tc main_arg2) : Vec Ideal S512x16x16 .f32) (broadcastInDim S512x16x16 ![] bcast_S_S512x16x16 (constant (F := Ideal) S_ .f32 0x00000000#32)) : Vec Ideal S512x16x16 .f32) (ix3 b i j) = _
  pointwise
  rw [addi_none]
  exact (sel_ge (by omega) (by omega) _ _).trans (h b i j)

theorem seg2 (L : ℕ → Matrix (Fin 16) (Fin 16) ℝ)
    (h6 : (X (Proc.devRef .tc main_v6) : Vec Ideal S512x1x512x1 .f32) = fun y => (((if (y 0).val = (y 2).val then 1 else 0 : ℝ)) : EReal))
    (h7 : X (Proc.devRef .tc main_v7) = up3 fun b : Fin 512 => L b.val) :
    after hostOps0_2 X (Proc.devRef .tc main_v12) = up2 (diag L) := by
  refine up2_ext fun r s => ?_
  simp only [hostOps0_2]
  after_results
  rw [h6, h7]
  refine (shapeCast_apply _ shapeCasts_S512x16x512x16_S8192x8192 (ix2 r s)
    (ix4 (⟨r.val / 16, by omega⟩ : Fin 512) (⟨r.val % 16, by omega⟩ : Fin 16) (⟨s.val / 16, by omega⟩ : Fin 512) (⟨s.val % 16, by omega⟩ : Fin 16)) ?_).trans ?_
  · refine (Shape.rowMajor_val_four (ix4 (⟨r.val / 16, by omega⟩ : Fin 512) (⟨r.val % 16, by omega⟩ : Fin 16) (⟨s.val / 16, by omega⟩ : Fin 512) (⟨s.val % 16, by omega⟩ : Fin 16))).trans
      (Eq.trans ?_ (Shape.rowMajor_val_two (ix2 r s)).symm)
    show ((r.val / 16 * 16 + r.val % 16) * 512 + s.val / 16) * 16 + s.val % 16 = r.val * 8192 + s.val
    omega
  · pointwise
    rw [up3_ix]
    show (((if r.val / 16 = s.val / 16 then 1 else 0 : ℝ)) : EReal) * ((L (r.val / 16) ⟨r.val % 16, _⟩ ⟨s.val % 16, _⟩ : ℝ) : EReal)
      = ((if r.val / 16 = s.val / 16 then L (r.val / 16) ⟨r.val % 16, _⟩ ⟨s.val % 16, _⟩ else 0 : ℝ) : EReal)
    by_cases hb : r.val / 16 = s.val / 16
    · rw [if_pos hb, if_pos hb, ← EReal.coe_mul, one_mul]
    · rw [if_neg hb, if_neg hb, ← EReal.coe_mul, zero_mul]

theorem seg3 (L : Matrix (Fin 64) (Fin 64) ℝ) (h : TriReal (X (Proc.devRef .tc main_arg1)) L) :
    after hostOps0_3 X (Proc.devRef .tc main_v13) = up2 L := by
  refine up2_ext fun i j => ?_
  simp only [hostOps0_3]
  after_results
  show (select (cmpi .sge (addi (iotaInDim S64x64 32 0) (broadcastInDim S64x64 ![] bcast_S_S64x64 (constantI S_ 32 0#32))) (iotaInDim S64x64 32 1))
    (X (Proc.devRef .tc main_arg1) : Vec Ideal S64x64 .f32) (broadcastInDim S64x64 ![] bcast_S_S64x64 (constant (F := Ideal) S_ .f32 0x00000000#32)) : Vec Ideal S64x64 .f32) (ix2 i j) = _
  pointwise
  rw [addi_none]
  exact (sel_ge (by omega) (by omega) _ _).trans (h i j)

/-- The arrow matrix, joined of its parts. -/
theorem joined (p : Inp) (z : Vec Ideal S64x64 .f32) (u : Vec Ideal S8192x64 .f32) (d : Vec Ideal S8192x8192 .f32)
    (hz : z = up2 p.Lz) (hu : u = up2 (n := 8192) (Matrix.of fun i k => p.U i.val k)) (hd : d = up2 (diag p.Ly)) :
    concatenate S8256x8256 0
      [⟨S64x8256, concatenate S64x8256 1 [⟨S64x64, z⟩, ⟨S64x8192, broadcastInDim S64x8192 ![] bcast_S_S64x8192 (constant (F := Ideal) S_ FTy.f32 0#32)⟩] concatenates_S64x64_S64x8192_S64x8256_d1⟩,
       ⟨S8192x8256, concatenate S8192x8256 1 [⟨S8192x64, u⟩, ⟨S8192x8192, d⟩] concatenates_S8192x64_S8192x8192_S8192x8256_d1⟩]
      concatenates_S64x8256_S8192x8256_S8256x8256_d0 = up2 p.arrow := by
  subst hz hu hd
  refine up2_ext fun i l => ?_
  rw [arrow_entry]
  pointwise
  by_cases hi : i.val < 64
  · by_cases hl : l.val < 64
    · simp only [dif_pos hi, dif_pos hl]
      rfl
    · simp only [dif_pos hi, dif_neg hl]
      rfl
  · by_cases hl : l.val < 64
    · simp only [dif_neg hi, dif_pos hl]
      rfl
    · simp only [dif_neg hi, dif_neg hl]
      rfl

/-- A matrix times its transpose, and the unit matrix times the small number. -/
def gramOf (A : FVec Ideal S8256x8256 .f32) : FVec Ideal S8256x8256 .f32 :=
  addf (Host.dotGeneral dot_S8256x8256_S8256x8256_S8256x8256_1_0_0_1_n_n none A
        (Idealize.ShloMosaic.transpose S8256x8256 [1, 0] A transposes_S8256x8256_S8256x8256_1_0))
      (mulf (broadcastInDim S8256x8256 ![] bcast_S_S8256x8256 (constant S_ FTy.f32 953267991#32))
        (uitofp FTy.f32 (cmpi CmpIPredicate.eq (addi (iotaInDim S8256x8256 32 0) (broadcastInDim S8256x8256 ![] bcast_S_S8256x8256 (constantI S_ 32 0#32)))
          (iotaInDim S8256x8256 32 1))))

/-- The covariance. -/
theorem gram (A : FVec Ideal S8256x8256 .f32) (p : Inp) (hA : A = up2 p.arrow) : gramOf A = up2 p.cov := by
  subst hA
  refine up2_ext fun i l => ?_
  pointwise [gramOf]
  rw [addi_none, bit_eq (by omega) (by omega), ofBits_eps, Inp.cov_eq]
  simp only [up2_ix, ← EReal.coe_mul, ← EReal.coe_add, coe_sum, Matrix.add_apply, Matrix.mul_apply, Matrix.transpose_apply, Matrix.smul_apply, Matrix.one_apply, Fin.ext_iff, smul_eq_mul]

theorem seg4 (p : Inp) (h13 : X (Proc.devRef .tc main_v13) = up2 p.Lz) (h12 : X (Proc.devRef .tc main_v12) = up2 (diag p.Ly))
    (h3 : ∀ (n : Fin 512) (i : Fin 16) (k : Fin 64), (X (Proc.devRef .tc main_arg3) : Vec Ideal S512x16x64 .f32) (ix3 n i k) = ((p.U (16 * n.val + i.val) k : ℝ) : EReal)) :
    after hostOps0_4 X (Proc.devRef .tc main_v32_0) = up2 p.cov := by
  simp only [hostOps0_4]
  after_results
  rw [id_eq]
  refine (show _ = gramOf _ from rfl).trans <| gram _ p (joined p _ _ _ h13 ?_ h12)
  refine up2_ext (n := 8192) (m := 64) fun i k => ?_
  refine (shapeCast_apply (X (Proc.devRef .tc main_arg3)) shapeCasts_S512x16x64_S8192x64 (ix2 i k) (ix3 ⟨i.val / 16, by omega⟩ ⟨i.val % 16, by omega⟩ k) ?_).trans ?_
  · refine (Shape.rowMajor_val_three (ix3 (⟨i.val / 16, by omega⟩ : Fin 512) (⟨i.val % 16, by omega⟩ : Fin 16) k)).trans
      (Eq.trans ?_ (Shape.rowMajor_val_two (ix2 i k)).symm)
    show (i.val / 16 * 16 + i.val % 16) * 64 + k.val = i.val * 64 + k.val
    omega
  · rw [h3]
    show ((p.U (16 * (i.val / 16) + i.val % 16) k : ℝ) : EReal) = ((p.U i.val k : ℝ) : EReal)
    rw [Nat.div_add_mod]

theorem entry (m : (ℓ : Loc nD τ sig) → Buf (Elt Ideal) ℓ) (c : Dev nD) :
    entryContents preI m c = after hostOps0_4 (after hostOps0_3 (after hostOps0_2 (after hostOps0_1 (after hostOps0 (launchContents m c))))) := by
  simp only [entryContents, afterL_cons, afterL_nil]

end Cert.RefValue

end
-- ==== Proof.Value.RefResult.lean ====
/- The reference's result, of the launch's arrays. -/
module

public import proofs.«01_k».proof.Proof.Value.RefLoop
public import proofs.«01_k».proof.Proof.Value.RefEntry

@[expose] public section

set_option maxRecDepth 16384

noncomputable section

namespace Cert.RefValue

open Cert.ReferenceIdeal Cert.ReferenceIdeal.Gen Cert.ReferenceIdeal.Value Cert.Arrow
open Idealize.ShloMosaic Idealize.ShloMosaic.TcCoe Idealize.ShloMosaic.Tactic Matrix
open Idealize.SL.Sem Idealize.ShloMosaic.StableHlo

section Rests

variable (X : Valuation τ sig (Elt Ideal))

theorem keep0_1 : after hostOps0 X (Proc.devRef .tc main_arg1) = X (Proc.devRef .tc main_arg1) := by
  simp only [hostOps0]
  after_results
theorem keep0_2 : after hostOps0 X (Proc.devRef .tc main_arg2) = X (Proc.devRef .tc main_arg2) := by
  simp only [hostOps0]
  after_results
theorem keep0_3 : after hostOps0 X (Proc.devRef .tc main_arg3) = X (Proc.devRef .tc main_arg3) := by
  simp only [hostOps0]
  after_results
theorem keep1_1 : after hostOps0_1 X (Proc.devRef .tc main_arg1) = X (Proc.devRef .tc main_arg1) := by
  simp only [hostOps0_1]
  after_results
theorem keep1_3 : after hostOps0_1 X (Proc.devRef .tc main_arg3) = X (Proc.devRef .tc main_arg3) := by
  simp only [hostOps0_1]
  after_results
theorem keep1_6 : after hostOps0_1 X (Proc.devRef .tc main_v6) = X (Proc.devRef .tc main_v6) := by
  simp only [hostOps0_1]
  after_results
theorem keep2_1 : after hostOps0_2 X (Proc.devRef .tc main_arg1) = X (Proc.devRef .tc main_arg1) := by
  simp only [hostOps0_2]
  after_results
theorem keep2_3 : after hostOps0_2 X (Proc.devRef .tc main_arg3) = X (Proc.devRef .tc main_arg3) := by
  simp only [hostOps0_2]
  after_results
theorem keep3_3 : after hostOps0_3 X (Proc.devRef .tc main_arg3) = X (Proc.devRef .tc main_arg3) := by
  simp only [hostOps0_3]
  after_results
theorem keep3_12 : after hostOps0_3 X (Proc.devRef .tc main_v12) = X (Proc.devRef .tc main_v12) := by
  simp only [hostOps0_3]
  after_results

theorem seg4_1 : after hostOps0_4 X (Proc.devRef .tc main_v32_1) = (iotaInDim S8256 32 0 : Vec Ideal S8256 .i32) := by
  simp only [hostOps0_4]
  after_results
  rfl

theorem seg4_3 : after hostOps0_4 X (Proc.devRef .tc main_v32_3) = fun _ => 0#32 := by
  simp only [hostOps0_4]
  after_results
  rfl

theorem seg4_4 : after hostOps0_4 X (Proc.devRef .tc main_v32_4) = up2 (0 : Matrix (Fin 8256) (Fin 8256) ℝ) := by
  refine up2_ext fun i j => ?_
  simp only [hostOps0_4]
  after_results
  rw [id_eq]
  pointwise
  rfl

end Rests

variable {m : (ℓ : Loc nD τ sig) → Buf (Elt Ideal) ℓ} {c : Dev nD} {p : Inp} {E : Matrix (Fin 128) (Fin 8256) ℝ}

theorem entry_cov (h1 : TriReal (m ((c : Thread nD τ).loc main_arg1)) p.Lz) (h2 : TrilReal (m ((c : Thread nD τ).loc main_arg2)) p.Ly)
    (h3 : ∀ (n : Fin 512) (i : Fin 16) (k : Fin 64), m ((c : Thread nD τ).loc main_arg3) (ix3 n i k) = ((p.U (16 * n.val + i.val) k : ℝ) : EReal)) :
    entryContents preI m c (Proc.devRef .tc main_v32_0) = up2 p.cov := by
  rw [entry]
  refine seg4 _ p ?_ ?_ ?_
  · refine seg3 _ p.Lz ?_
    rw [keep2_1, keep1_1, keep0_1]
    exact h1
  · rw [keep3_12]
    refine seg2 _ p.Ly ?_ ?_
    · rw [keep1_6]
      exact seg0 _
    · refine seg1 _ p.Ly ?_
      rw [keep0_2]
      exact h2
  · rw [keep3_3, keep2_3, keep1_3, keep0_3]
    exact h3

/-- The result: the means and the noises through the covariance's factor. -/
theorem ref_result (h1 : TriReal (m ((c : Thread nD τ).loc main_arg1)) p.Lz) (h2 : TrilReal (m ((c : Thread nD τ).loc main_arg2)) p.Ly)
    (h3 : ∀ (n : Fin 512) (i : Fin 16) (k : Fin 64), m ((c : Thread nD τ).loc main_arg3) (ix3 n i k) = ((p.U (16 * n.val + i.val) k : ℝ) : EReal))
    (h4 : ∀ (i : Fin 128) (l : Fin 8256), m ((c : Thread nD τ).loc main_arg4) (ix2 i l) = ((E i l : ℝ) : EReal))
    (μ : Vec Ideal S8256 .f32) (hμ : m ((c : Thread nD τ).loc main_arg0) = μ) (i : Fin 128) (l : Fin 8256) :
    (out_main_v37 (STEP^[8256] (entryContents preI m c)) : Vec Ideal S128x8256 .f32) (ix2 i l) = μ (ix1 l) + (((E * p.facᵀ) i l : ℝ) : EReal) := by
  obtain ⟨-, -, -, hL⟩ := loop (entryContents preI m c) p.cov p.fac p.isChol_fac (entry_cov h1 h2 h3)
    (by rw [entry]; exact seg4_1 _) (by rw [entry]; exact seg4_3 _) (by rw [entry]; exact seg4_4 _) 8256 le_rfl
  refine out_eq _ μ ((iter_main_arg0 m c 8256).trans hμ) p.fac E ?_ ?_ i l
  · rw [hL, colState_last]
  · rw [iter_main_arg4]
    exact up2_ext h4

end Cert.RefValue

end
-- ==== Proof.Value.Real.lean ====
/- What the precondition says of the arrays: every entry that is read is a real number. -/
module

public import proofs.«01_k».proof.Defs
public import proofs.«01_k».proof.Proof.Value.Arrays

@[expose] public section

set_option maxRecDepth 16384

noncomputable section

namespace Cert.Pay

open Cert.KernelIdeal Cert.KernelIdeal.Whole Cert.Arrow
open Idealize.ShloMosaic Idealize.ShloMosaic.TcCoe Idealize.ShloMosaic.Tactic Matrix
open Idealize.SL.Sem

theorem pre_facts : Cert.Pre_finite.Facts where
  bcast_S_S64x64 := by decide
  bcast_S_S16x16 := by decide
  bcast_S16x16_S512x16x16_1_2 := by decide
  bcast_S_S512x16x16 := by decide
  bcast_S_S512x16x64 := by decide
  bcast_S_S128x8256 := by decide

theorem addi_zero' (x : BitVec 32) : IntOp.addi x 0#32 = x := by
  show x + 0#32 = x
  simp

/-- An absolute value below infinity is a real number's. -/
theorem real_of {x : EReal} (h : BitVec.ofBool (decide ((FloatOps.absf (F := Ideal) (φ := .f32) x : EReal) < Ideal.ofBits .f32 0x7F800000#32)) = 1#1) :
    x = ((x.toReal : ℝ) : EReal) := by
  have htop : Ideal.ofBits .f32 0x7F800000#32 = ⊤ := by simp [Ideal.ofBits, Ideal.ieee]
  have h' : max x (-x) < Ideal.ofBits .f32 0x7F800000#32 := by
    by_contra hn
    rw [decide_eq_false (show ¬ ((FloatOps.absf (F := Ideal) (φ := .f32) x : EReal) < Ideal.ofBits .f32 0x7F800000#32) from hn)] at h
    exact absurd h (by decide)
  rw [htop, max_lt_iff] at h'
  refine (EReal.coe_toReal h'.1.ne fun hb => ?_).symm
  rw [hb] at h'
  simp at h'

variable (m : (ℓ : Loc nD τ sig) → Buf (Elt Ideal) ℓ) (c : Dev nD)

/-- The arrays' real numbers. -/
def inp : Inp where
  Lz := fun i j => (if j.val ≤ i.val then (m ((c : Thread nD τ).loc main_arg1) : Vec Ideal S64x64 .f32) (ix2 i j) else 0 : EReal).toReal
  Ly := fun n i j => if h : n < 512 then (if j.val ≤ i.val then (m ((c : Thread nD τ).loc main_arg2) : Vec Ideal S512x16x16 .f32) (ix3 ⟨n, h⟩ i j) else 0 : EReal).toReal else 0
  U := fun r k => if h : r < 8192 then ((m ((c : Thread nD τ).loc main_arg3) : Vec Ideal S512x16x64 .f32) (ix3 ⟨r / 16, by omega⟩ ⟨r % 16, by omega⟩ k) : EReal).toReal else 0

/-- The noises' real numbers. -/
def noise : Matrix (Fin 128) (Fin 8256) ℝ := fun i l => ((m ((c : Thread nD τ).loc main_arg4) : Vec Ideal S128x8256 .f32) (ix2 i l) : EReal).toReal

theorem entries [Cert.Pre_finite.Facts] (h : Cert.Pre_KernelIdeal_finite m) : Entries m c (inp m c) (noise m c) := by
  obtain ⟨h1, h2, h3, h4⟩ := h c
  constructor
  · intro i j
    have e := congrFun h1 (ix2 i j)
    simp only [Cert.Pre_finite.fn, Cert.Pre_finite.fn_tril] at e
    pointwise at e
    rw [addi_zero', sel_ge (by omega) (by omega)] at e
    exact real_of e
  · intro b i j
    have e := congrFun h2 (ix3 b i j)
    simp only [Cert.Pre_finite.fn, Cert.Pre_finite.fn_tril_0] at e
    pointwise at e
    rw [addi_zero', sel_ge (by omega) (by omega)] at e
    refine (real_of e).trans (congrArg _ ?_)
    refine Eq.trans ?_ (dif_pos (show b.val < 512 from b.isLt)).symm
    rfl
  · intro n i k
    have e := congrFun h3 (ix3 n i k)
    simp only [Cert.Pre_finite.fn] at e
    pointwise at e
    refine (real_of e).trans (congrArg _ ?_)
    refine Eq.trans ?_ (dif_pos (show 16 * n.val + i.val < 8192 by omega)).symm
    have en : (⟨(16 * n.val + i.val) / 16, by omega⟩ : Fin 512) = n := Fin.ext (by show (16 * n.val + i.val) / 16 = n.val; omega)
    have ei : (⟨(16 * n.val + i.val) % 16, by omega⟩ : Fin 16) = i := Fin.ext (by show (16 * n.val + i.val) % 16 = i.val; omega)
    rw [en, ei]
  · intro i l
    have e := congrFun h4 (ix2 i l)
    simp only [Cert.Pre_finite.fn] at e
    pointwise at e
    exact real_of e

end Cert.Pay

end
-- ==== Proof.Value.Same.lean ====
/- The two programs end with equal results. -/
module

public import proofs.«01_k».proof.Defs
public import proofs.«01_k».proof.Proof.Value.Arrays2
public import proofs.«01_k».proof.Proof.Value.RefResult
public import proofs.«01_k».proof.Proof.Value.Real

@[expose] public section

noncomputable section

namespace Cert.Same

open Cert.Arrow Cert.Pay
open Idealize.ShloMosaic Idealize.ShloMosaic.TcCoe Idealize.ShloMosaic.Tactic Matrix
open Idealize.SL.Sem Idealize.ShloMosaic.StableHlo

/-- The reference's result is the kernel's, where the arguments agree and hold real numbers. -/
theorem results (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    {p : Inp} {E : Matrix (Fin 128) (Fin 8256) ℝ} (hm : Entries m c p E)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.out_main_v37 (Cert.ReferenceIdeal.Value.STEP^[8256] (entryContents Cert.ReferenceIdeal.Value.preI m' c)) : (⟨2, ![128, 8256]⟩ : Shape).Idx → EReal)
      = (Cert.KernelIdeal.Whole.W6 m g c (Proc.devRef .tc Cert.KernelIdeal.main_v0) : (⟨2, ![128, 8256]⟩ : Shape).Idx → EReal) := by
  funext y
  obtain ⟨i, l, rfl⟩ : ∃ (i : Fin 128) (l : Fin 8256), y = ix2 i l := ⟨y 0, y 1, (ix2_eta y).symm⟩
  refine (Cert.RefValue.ref_result (m := m') (c := c) (p := p) (E := E) ?_ ?_ ?_ ?_ _ e0 i l).trans (result_eq g hm i l).symm
  · rw [e1]; exact hm.lz
  · rw [e2]; exact hm.ly
  · rw [e3]; exact hm.u
  · rw [e4]; exact hm.e

/-- `Cert.algebraic_KernelIdeal_ReferenceIdeal_pre_finite`: the two runs, read at the result and at the arguments. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  refine ⟨fun c => Cert.KernelIdeal.Whole.W6 m g c (Proc.devRef .tc Cert.KernelIdeal.main_v0), ?_, ?_⟩
  · refine (θ_run _ _ _).mono (fun r h c => ?_) (Cert.KernelIdeal.Whole.run_result m g)
    obtain ⟨ha, hv⟩ := h.1 c
    exact ⟨hv, ha _ (by decide), ha _ (by decide), ha _ (by decide), ha _ (by decide), ha _ (by decide)⟩
  · refine (θ_run _ _ _).mono (fun r h c => ?_) (Cert.ReferenceIdeal.Value.run m' g')
    obtain ⟨e0, e1, e2, e3, e4⟩ := hargs c
    exact ⟨(h c).1.trans (results m g m' c (@entries m c pre_facts hpre) e0 e1 e2 e3 e4), (h c).2⟩

end Cert.Same

end
-- ==== Proof.lean ====
/- The claims about the kernel and its reference, assembled. -/
module

public import proofs.«01_k».proof.Defs
public import proofs.«01_k».proof.Proof.KernelRun.Launch
public import proofs.«01_k».proof.Proof.KernelIdealRun.Launch
public import proofs.«01_k».proof.Proof.RefFrame
public import proofs.«01_k».proof.Proof.Value.Same

@[expose] public section

noncomputable section

namespace Cert.Proof

open Idealize.ShloMosaic Idealize.SL.Sem

/-- The one rewritten constant: the table gives the name the root of the jitter. -/
theorem preserves : Cert.preserves_Kernel_KernelIdeal :=
  IdealRules.named_const.statement Cert.KernelIdeal.κ "root" .f32 0x3C23D70A#32
    ((Real.sqrt (13743895 / 137438953472) : ℝ) : EReal) rfl

/-- Everything the certificate claims. -/
theorem claim : Cert.Claim :=
  ⟨Cert.Kernel.Gen.facts, Cert.KernelIdeal.Gen.facts, Cert.ReferenceIdeal.Gen.facts, Cert.Pay.pre_facts,
    fun m g _ => Cert.Kernel.Whole.frame m g, fun m g _ => Cert.KernelIdeal.Whole.frame m g,
    fun m g _ => Cert.KernelIdeal.Whole.frame m g, Cert.RefFrame.frame, fun m g _ => Cert.RefFrame.frame m g trivial,
    preserves, Cert.Same.algebraic⟩

end Cert.Proof

end
